-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096 : Shape := ⟨2, ![4, 4096]⟩
abbrev S6291456 : Shape := ⟨1, ![6291456]⟩
abbrev S131072x8 : Shape := ⟨2, ![131072, 8]⟩
abbrev S16384 : Shape := ⟨1, ![16384]⟩
abbrev S1048576 : Shape := ⟨1, ![1048576]⟩
abbrev S49152 : Shape := ⟨1, ![49152]⟩
abbrev S32768 : Shape := ⟨1, ![32768]⟩
abbrev S512 : Shape := ⟨1, ![512]⟩
abbrev S_ : Shape := ⟨0, ![]⟩
abbrev S16 : Shape := ⟨1, ![16]⟩
abbrev S1 : Shape := ⟨1, ![1]⟩
abbrev S128 : Shape := ⟨1, ![128]⟩

abbrev nBuf : Table → Nat
  | .hbm => 7
  | .local .scVector .vmem => 4
  | _ => 0

abbrev bufTy : (tb : Table) → Fin (nBuf tb) → BufTy
  | .hbm, ⟨0, _⟩ => ⟨S4x4096, .f32⟩
  | .hbm, ⟨1, _⟩ => ⟨S6291456, .i32⟩
  | .hbm, ⟨2, _⟩ => ⟨S131072x8, .f32⟩
  | .hbm, ⟨3, _⟩ => ⟨S16384, .f32⟩
  | .hbm, ⟨4, _⟩ => ⟨S1048576, .f32⟩
  | .hbm, ⟨5, _⟩ => ⟨S16384, .f32⟩
  | .hbm, ⟨6, _⟩ => ⟨S4x4096, .f32⟩
  | .local .scVector .vmem, ⟨0, _⟩ => ⟨S16384, .f32⟩
  | .local .scVector .vmem, ⟨1, _⟩ => ⟨S49152, .i32⟩
  | .local .scVector .vmem, ⟨2, _⟩ => ⟨S32768, .f32⟩
  | .local .scVector .vmem, ⟨3, _⟩ => ⟨S512, .f32⟩
  | _, _ => ⟨S4x4096, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v0_scv : Ref sig .scVector := ⟨.hbm, 3, rfl⟩
abbrev main_arg1_scv : Ref sig .scVector := ⟨.hbm, 1, rfl⟩
abbrev main_v1_scv : Ref sig .scVector := ⟨.hbm, 4, rfl⟩
abbrev main_v2_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c128_i32 : BitVec 32 := 128#32
  let v2 : BitVec 32 := Scalar.muli v1 c128_i32
  let c32_i32 : BitVec 32 := 32#32
  let v3 : BitVec 32 := Scalar.muli v2 c32_i32
  let c8_i32 : BitVec 32 := 8#32
  let v4 : BitVec 32 := Scalar.muli v3 c8_i32
  ![v4.toNat]
@[reducible] def k0_t1_loop : Scf.Loop 32 :=
  let c0_i32_0 : BitVec 32 := 0#32
  let c4_i32 : BitVec 32 := 4#32
  let v6 : BitVec 32 := Scalar.addi c0_i32_0 c4_i32
  let c1_i32 : BitVec 32 := 1#32
  ⟨c0_i32_0, v6, c1_i32⟩
def k0_off2 (i : grid0.Coords) (k0_t1 : Fin k0_t1_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c128_i32 : BitVec 32 := 128#32
  let v2 : BitVec 32 := Scalar.muli v1 c128_i32
  let c0_i32_0 : BitVec 32 := 0#32
  let c1_i32 : BitVec 32 := 1#32
  let arg10 : BitVec 32 := Scf.iv c0_i32_0 c1_i32 k0_t1
  let c32_i32_3 : BitVec 32 := 32#32
  let v12 : BitVec 32 := Scalar.muli arg10 c32_i32_3
  let v13 : BitVec 32 := Scalar.addi v2 v12
  let c1536_i32 : BitVec 32 := 1536#32
  let v14 : BitVec 32 := Scalar.muli v13 c1536_i32
  ![v14.toNat]
@[reducible] def k0_t2_loop : Scf.Loop 32 :=
  let c0_i32_19 : BitVec 32 := 0#32
  let c128_i32_20 : BitVec 32 := 128#32
  let v45 : BitVec 32 := Scalar.addi c0_i32_19 c128_i32_20
  let c1_i32_21 : BitVec 32 := 1#32
  ⟨c0_i32_19, v45, c1_i32_21⟩
def k0_off3 (k0_t2 : Fin k0_t2_loop.trips) (c0_i32_48 : BitVec 32) : Fin 1 → Nat :=
  let c0_i32_19 : BitVec 32 := 0#32
  let c1_i32_21 : BitVec 32 := 1#32
  let arg12 : BitVec 32 := Scf.iv c0_i32_19 c1_i32_21 k0_t2
  let c32_i32_47 : BitVec 32 := 32#32
  let v93 : BitVec 32 := Scalar.muli arg12 c32_i32_47
  let v94 : BitVec 32 := Scalar.addi c0_i32_48 v93
  let v95 : Index := Scalar.indexCast v94
  ![v95.toNat]
def k0_off4 (k0_t2 : Fin k0_t2_loop.trips) (c0_i32_50 : BitVec 32) : Fin 1 → Nat :=
  let c0_i32_19 : BitVec 32 := 0#32
  let c1_i32_21 : BitVec 32 := 1#32
  let arg12 : BitVec 32 := Scf.iv c0_i32_19 c1_i32_21 k0_t2
  let c32_i32_49 : BitVec 32 := 32#32
  let v97 : BitVec 32 := Scalar.muli arg12 c32_i32_49
  let v98 : BitVec 32 := Scalar.addi c0_i32_50 v97
  let c16_i32_51 : BitVec 32 := 16#32
  let v99 : BitVec 32 := Scalar.addi v98 c16_i32_51
  let v100 : Index := Scalar.indexCast v99
  ![v100.toNat]

def k0_chk1 (v132 : IVec S16 32) : Prop :=
  (∀ a x, ((![v132] : Fin 1 → IVec S16 32) a x).toNat < S49152.size a)
theorem k0_idx1_inb : ∀ (v132 : IVec S16 32) (k0_hw1 : k0_chk1 v132), ∀ a x, ((![v132] : Fin 1 → IVec S16 32) a x).toNat < S49152.size a := fun v132 k0_hw1 => k0_hw1

def k0_chk2 (v135 : IVec S16 32) : Prop :=
  (∀ a x, ((![v135] : Fin 1 → IVec S16 32) a x).toNat < S49152.size a)
theorem k0_idx2_inb : ∀ (v135 : IVec S16 32) (k0_hw2 : k0_chk2 v135), ∀ a x, ((![v135] : Fin 1 → IVec S16 32) a x).toNat < S49152.size a := fun v135 k0_hw2 => k0_hw2

def k0_chk3 (v138 : IVec S16 32) : Prop :=
  (∀ a x, ((![v138] : Fin 1 → IVec S16 32) a x).toNat < S49152.size a)
theorem k0_idx3_inb : ∀ (v138 : IVec S16 32) (k0_hw3 : k0_chk3 v138), ∀ a x, ((![v138] : Fin 1 → IVec S16 32) a x).toNat < S49152.size a := fun v138 k0_hw3 => k0_hw3

def k0_chk4 (v147 : IVec S16 32) : Prop :=
  (∀ a x, ((![v147] : Fin 1 → IVec S16 32) a x).toNat < S49152.size a)
theorem k0_idx4_inb : ∀ (v147 : IVec S16 32) (k0_hw4 : k0_chk4 v147), ∀ a x, ((![v147] : Fin 1 → IVec S16 32) a x).toNat < S49152.size a := fun v147 k0_hw4 => k0_hw4

def k0_chk5 (v150 : IVec S16 32) : Prop :=
  (∀ a x, ((![v150] : Fin 1 → IVec S16 32) a x).toNat < S49152.size a)
theorem k0_idx5_inb : ∀ (v150 : IVec S16 32) (k0_hw5 : k0_chk5 v150), ∀ a x, ((![v150] : Fin 1 → IVec S16 32) a x).toNat < S49152.size a := fun v150 k0_hw5 => k0_hw5

def k0_chk6 (v153 : IVec S16 32) : Prop :=
  (∀ a x, ((![v153] : Fin 1 → IVec S16 32) a x).toNat < S49152.size a)
theorem k0_idx6_inb : ∀ (v153 : IVec S16 32) (k0_hw6 : k0_chk6 v153), ∀ a x, ((![v153] : Fin 1 → IVec S16 32) a x).toNat < S49152.size a := fun v153 k0_hw6 => k0_hw6

def k0_chk7 (v173 : IVec S16 32) : Prop :=
  (∀ a x, ((![v173] : Fin 1 → IVec S16 32) a x).toNat < S32768.size a)
theorem k0_idx7_inb : ∀ (v173 : IVec S16 32) (k0_hw7 : k0_chk7 v173), ∀ a x, ((![v173] : Fin 1 → IVec S16 32) a x).toNat < S32768.size a := fun v173 k0_hw7 => k0_hw7

def k0_chk8 (v191 : IVec S16 32) : Prop :=
  (∀ a x, ((![v191] : Fin 1 → IVec S16 32) a x).toNat < S32768.size a)
theorem k0_idx8_inb : ∀ (v191 : IVec S16 32) (k0_hw8 : k0_chk8 v191), ∀ a x, ((![v191] : Fin 1 → IVec S16 32) a x).toNat < S32768.size a := fun v191 k0_hw8 => k0_hw8

def k0_chk9 (v217 : IVec S16 32) : Prop :=
  (∀ a x, ((![v217] : Fin 1 → IVec S16 32) a x).toNat < S32768.size a)
theorem k0_idx9_inb : ∀ (v217 : IVec S16 32) (k0_hw9 : k0_chk9 v217), ∀ a x, ((![v217] : Fin 1 → IVec S16 32) a x).toNat < S32768.size a := fun v217 k0_hw9 => k0_hw9

def k0_chk10 (v235 : IVec S16 32) : Prop :=
  (∀ a x, ((![v235] : Fin 1 → IVec S16 32) a x).toNat < S32768.size a)
theorem k0_idx10_inb : ∀ (v235 : IVec S16 32) (k0_hw10 : k0_chk10 v235), ∀ a x, ((![v235] : Fin 1 → IVec S16 32) a x).toNat < S32768.size a := fun v235 k0_hw10 => k0_hw10

def k0_chk11 (v261 : IVec S16 32) : Prop :=
  (∀ a x, ((![v261] : Fin 1 → IVec S16 32) a x).toNat < S32768.size a)
theorem k0_idx11_inb : ∀ (v261 : IVec S16 32) (k0_hw11 : k0_chk11 v261), ∀ a x, ((![v261] : Fin 1 → IVec S16 32) a x).toNat < S32768.size a := fun v261 k0_hw11 => k0_hw11

def k0_chk12 (v279 : IVec S16 32) : Prop :=
  (∀ a x, ((![v279] : Fin 1 → IVec S16 32) a x).toNat < S32768.size a)
theorem k0_idx12_inb : ∀ (v279 : IVec S16 32) (k0_hw12 : k0_chk12 v279), ∀ a x, ((![v279] : Fin 1 → IVec S16 32) a x).toNat < S32768.size a := fun v279 k0_hw12 => k0_hw12

def k0_chk13 (v305 : IVec S16 32) : Prop :=
  (∀ a x, ((![v305] : Fin 1 → IVec S16 32) a x).toNat < S32768.size a)
theorem k0_idx13_inb : ∀ (v305 : IVec S16 32) (k0_hw13 : k0_chk13 v305), ∀ a x, ((![v305] : Fin 1 → IVec S16 32) a x).toNat < S32768.size a := fun v305 k0_hw13 => k0_hw13

def k0_chk14 (v323 : IVec S16 32) : Prop :=
  (∀ a x, ((![v323] : Fin 1 → IVec S16 32) a x).toNat < S32768.size a)
theorem k0_idx14_inb : ∀ (v323 : IVec S16 32) (k0_hw14 : k0_chk14 v323), ∀ a x, ((![v323] : Fin 1 → IVec S16 32) a x).toNat < S32768.size a := fun v323 k0_hw14 => k0_hw14

def k0_chk15 (v349 : IVec S16 32) : Prop :=
  (∀ a x, ((![v349] : Fin 1 → IVec S16 32) a x).toNat < S32768.size a)
theorem k0_idx15_inb : ∀ (v349 : IVec S16 32) (k0_hw15 : k0_chk15 v349), ∀ a x, ((![v349] : Fin 1 → IVec S16 32) a x).toNat < S32768.size a := fun v349 k0_hw15 => k0_hw15

def k0_chk16 (v367 : IVec S16 32) : Prop :=
  (∀ a x, ((![v367] : Fin 1 → IVec S16 32) a x).toNat < S32768.size a)
theorem k0_idx16_inb : ∀ (v367 : IVec S16 32) (k0_hw16 : k0_chk16 v367), ∀ a x, ((![v367] : Fin 1 → IVec S16 32) a x).toNat < S32768.size a := fun v367 k0_hw16 => k0_hw16

def k0_chk17 (v393 : IVec S16 32) : Prop :=
  (∀ a x, ((![v393] : Fin 1 → IVec S16 32) a x).toNat < S32768.size a)
theorem k0_idx17_inb : ∀ (v393 : IVec S16 32) (k0_hw17 : k0_chk17 v393), ∀ a x, ((![v393] : Fin 1 → IVec S16 32) a x).toNat < S32768.size a := fun v393 k0_hw17 => k0_hw17

def k0_chk18 (v411 : IVec S16 32) : Prop :=
  (∀ a x, ((![v411] : Fin 1 → IVec S16 32) a x).toNat < S32768.size a)
theorem k0_idx18_inb : ∀ (v411 : IVec S16 32) (k0_hw18 : k0_chk18 v411), ∀ a x, ((![v411] : Fin 1 → IVec S16 32) a x).toNat < S32768.size a := fun v411 k0_hw18 => k0_hw18

def k0_chk19 (v437 : IVec S16 32) : Prop :=
  (∀ a x, ((![v437] : Fin 1 → IVec S16 32) a x).toNat < S32768.size a)
theorem k0_idx19_inb : ∀ (v437 : IVec S16 32) (k0_hw19 : k0_chk19 v437), ∀ a x, ((![v437] : Fin 1 → IVec S16 32) a x).toNat < S32768.size a := fun v437 k0_hw19 => k0_hw19

def k0_chk20 (v455 : IVec S16 32) : Prop :=
  (∀ a x, ((![v455] : Fin 1 → IVec S16 32) a x).toNat < S32768.size a)
theorem k0_idx20_inb : ∀ (v455 : IVec S16 32) (k0_hw20 : k0_chk20 v455), ∀ a x, ((![v455] : Fin 1 → IVec S16 32) a x).toNat < S32768.size a := fun v455 k0_hw20 => k0_hw20

def k0_chk21 (v481 : IVec S16 32) : Prop :=
  (∀ a x, ((![v481] : Fin 1 → IVec S16 32) a x).toNat < S32768.size a)
theorem k0_idx21_inb : ∀ (v481 : IVec S16 32) (k0_hw21 : k0_chk21 v481), ∀ a x, ((![v481] : Fin 1 → IVec S16 32) a x).toNat < S32768.size a := fun v481 k0_hw21 => k0_hw21

def k0_chk22 (v499 : IVec S16 32) : Prop :=
  (∀ a x, ((![v499] : Fin 1 → IVec S16 32) a x).toNat < S32768.size a)
theorem k0_idx22_inb : ∀ (v499 : IVec S16 32) (k0_hw22 : k0_chk22 v499), ∀ a x, ((![v499] : Fin 1 → IVec S16 32) a x).toNat < S32768.size a := fun v499 k0_hw22 => k0_hw22

def k0_chk23 (v516 : IVec S16 32) : Prop :=
  (∀ a x, ((![v516] : Fin 1 → IVec S16 32) a x).toNat < S49152.size a)
theorem k0_idx23_inb : ∀ (v516 : IVec S16 32) (k0_hw23 : k0_chk23 v516), ∀ a x, ((![v516] : Fin 1 → IVec S16 32) a x).toNat < S49152.size a := fun v516 k0_hw23 => k0_hw23

def k0_chk24 (v519 : IVec S16 32) : Prop :=
  (∀ a x, ((![v519] : Fin 1 → IVec S16 32) a x).toNat < S49152.size a)
theorem k0_idx24_inb : ∀ (v519 : IVec S16 32) (k0_hw24 : k0_chk24 v519), ∀ a x, ((![v519] : Fin 1 → IVec S16 32) a x).toNat < S49152.size a := fun v519 k0_hw24 => k0_hw24

def k0_chk25 (v522 : IVec S16 32) : Prop :=
  (∀ a x, ((![v522] : Fin 1 → IVec S16 32) a x).toNat < S49152.size a)
theorem k0_idx25_inb : ∀ (v522 : IVec S16 32) (k0_hw25 : k0_chk25 v522), ∀ a x, ((![v522] : Fin 1 → IVec S16 32) a x).toNat < S49152.size a := fun v522 k0_hw25 => k0_hw25

def k0_chk26 (v531 : IVec S16 32) : Prop :=
  (∀ a x, ((![v531] : Fin 1 → IVec S16 32) a x).toNat < S49152.size a)
theorem k0_idx26_inb : ∀ (v531 : IVec S16 32) (k0_hw26 : k0_chk26 v531), ∀ a x, ((![v531] : Fin 1 → IVec S16 32) a x).toNat < S49152.size a := fun v531 k0_hw26 => k0_hw26

def k0_chk27 (v534 : IVec S16 32) : Prop :=
  (∀ a x, ((![v534] : Fin 1 → IVec S16 32) a x).toNat < S49152.size a)
theorem k0_idx27_inb : ∀ (v534 : IVec S16 32) (k0_hw27 : k0_chk27 v534), ∀ a x, ((![v534] : Fin 1 → IVec S16 32) a x).toNat < S49152.size a := fun v534 k0_hw27 => k0_hw27

def k0_chk28 (v537 : IVec S16 32) : Prop :=
  (∀ a x, ((![v537] : Fin 1 → IVec S16 32) a x).toNat < S49152.size a)
theorem k0_idx28_inb : ∀ (v537 : IVec S16 32) (k0_hw28 : k0_chk28 v537), ∀ a x, ((![v537] : Fin 1 → IVec S16 32) a x).toNat < S49152.size a := fun v537 k0_hw28 => k0_hw28

def k0_chk29 (v557 : IVec S16 32) : Prop :=
  (∀ a x, ((![v557] : Fin 1 → IVec S16 32) a x).toNat < S32768.size a)
theorem k0_idx29_inb : ∀ (v557 : IVec S16 32) (k0_hw29 : k0_chk29 v557), ∀ a x, ((![v557] : Fin 1 → IVec S16 32) a x).toNat < S32768.size a := fun v557 k0_hw29 => k0_hw29

def k0_chk30 (v575 : IVec S16 32) : Prop :=
  (∀ a x, ((![v575] : Fin 1 → IVec S16 32) a x).toNat < S32768.size a)
theorem k0_idx30_inb : ∀ (v575 : IVec S16 32) (k0_hw30 : k0_chk30 v575), ∀ a x, ((![v575] : Fin 1 → IVec S16 32) a x).toNat < S32768.size a := fun v575 k0_hw30 => k0_hw30

def k0_chk31 (v601 : IVec S16 32) : Prop :=
  (∀ a x, ((![v601] : Fin 1 → IVec S16 32) a x).toNat < S32768.size a)
theorem k0_idx31_inb : ∀ (v601 : IVec S16 32) (k0_hw31 : k0_chk31 v601), ∀ a x, ((![v601] : Fin 1 → IVec S16 32) a x).toNat < S32768.size a := fun v601 k0_hw31 => k0_hw31

def k0_chk32 (v619 : IVec S16 32) : Prop :=
  (∀ a x, ((![v619] : Fin 1 → IVec S16 32) a x).toNat < S32768.size a)
theorem k0_idx32_inb : ∀ (v619 : IVec S16 32) (k0_hw32 : k0_chk32 v619), ∀ a x, ((![v619] : Fin 1 → IVec S16 32) a x).toNat < S32768.size a := fun v619 k0_hw32 => k0_hw32

def k0_chk33 (v645 : IVec S16 32) : Prop :=
  (∀ a x, ((![v645] : Fin 1 → IVec S16 32) a x).toNat < S32768.size a)
theorem k0_idx33_inb : ∀ (v645 : IVec S16 32) (k0_hw33 : k0_chk33 v645), ∀ a x, ((![v645] : Fin 1 → IVec S16 32) a x).toNat < S32768.size a := fun v645 k0_hw33 => k0_hw33

def k0_chk34 (v663 : IVec S16 32) : Prop :=
  (∀ a x, ((![v663] : Fin 1 → IVec S16 32) a x).toNat < S32768.size a)
theorem k0_idx34_inb : ∀ (v663 : IVec S16 32) (k0_hw34 : k0_chk34 v663), ∀ a x, ((![v663] : Fin 1 → IVec S16 32) a x).toNat < S32768.size a := fun v663 k0_hw34 => k0_hw34

def k0_chk35 (v689 : IVec S16 32) : Prop :=
  (∀ a x, ((![v689] : Fin 1 → IVec S16 32) a x).toNat < S32768.size a)
theorem k0_idx35_inb : ∀ (v689 : IVec S16 32) (k0_hw35 : k0_chk35 v689), ∀ a x, ((![v689] : Fin 1 → IVec S16 32) a x).toNat < S32768.size a := fun v689 k0_hw35 => k0_hw35

def k0_chk36 (v707 : IVec S16 32) : Prop :=
  (∀ a x, ((![v707] : Fin 1 → IVec S16 32) a x).toNat < S32768.size a)
theorem k0_idx36_inb : ∀ (v707 : IVec S16 32) (k0_hw36 : k0_chk36 v707), ∀ a x, ((![v707] : Fin 1 → IVec S16 32) a x).toNat < S32768.size a := fun v707 k0_hw36 => k0_hw36

def k0_chk37 (v733 : IVec S16 32) : Prop :=
  (∀ a x, ((![v733] : Fin 1 → IVec S16 32) a x).toNat < S32768.size a)
theorem k0_idx37_inb : ∀ (v733 : IVec S16 32) (k0_hw37 : k0_chk37 v733), ∀ a x, ((![v733] : Fin 1 → IVec S16 32) a x).toNat < S32768.size a := fun v733 k0_hw37 => k0_hw37

def k0_chk38 (v751 : IVec S16 32) : Prop :=
  (∀ a x, ((![v751] : Fin 1 → IVec S16 32) a x).toNat < S32768.size a)
theorem k0_idx38_inb : ∀ (v751 : IVec S16 32) (k0_hw38 : k0_chk38 v751), ∀ a x, ((![v751] : Fin 1 → IVec S16 32) a x).toNat < S32768.size a := fun v751 k0_hw38 => k0_hw38

def k0_chk39 (v777 : IVec S16 32) : Prop :=
  (∀ a x, ((![v777] : Fin 1 → IVec S16 32) a x).toNat < S32768.size a)
theorem k0_idx39_inb : ∀ (v777 : IVec S16 32) (k0_hw39 : k0_chk39 v777), ∀ a x, ((![v777] : Fin 1 → IVec S16 32) a x).toNat < S32768.size a := fun v777 k0_hw39 => k0_hw39

def k0_chk40 (v795 : IVec S16 32) : Prop :=
  (∀ a x, ((![v795] : Fin 1 → IVec S16 32) a x).toNat < S32768.size a)
theorem k0_idx40_inb : ∀ (v795 : IVec S16 32) (k0_hw40 : k0_chk40 v795), ∀ a x, ((![v795] : Fin 1 → IVec S16 32) a x).toNat < S32768.size a := fun v795 k0_hw40 => k0_hw40

def k0_chk41 (v821 : IVec S16 32) : Prop :=
  (∀ a x, ((![v821] : Fin 1 → IVec S16 32) a x).toNat < S32768.size a)
theorem k0_idx41_inb : ∀ (v821 : IVec S16 32) (k0_hw41 : k0_chk41 v821), ∀ a x, ((![v821] : Fin 1 → IVec S16 32) a x).toNat < S32768.size a := fun v821 k0_hw41 => k0_hw41

def k0_chk42 (v839 : IVec S16 32) : Prop :=
  (∀ a x, ((![v839] : Fin 1 → IVec S16 32) a x).toNat < S32768.size a)
theorem k0_idx42_inb : ∀ (v839 : IVec S16 32) (k0_hw42 : k0_chk42 v839), ∀ a x, ((![v839] : Fin 1 → IVec S16 32) a x).toNat < S32768.size a := fun v839 k0_hw42 => k0_hw42

def k0_chk43 (v865 : IVec S16 32) : Prop :=
  (∀ a x, ((![v865] : Fin 1 → IVec S16 32) a x).toNat < S32768.size a)
theorem k0_idx43_inb : ∀ (v865 : IVec S16 32) (k0_hw43 : k0_chk43 v865), ∀ a x, ((![v865] : Fin 1 → IVec S16 32) a x).toNat < S32768.size a := fun v865 k0_hw43 => k0_hw43

def k0_chk44 (v883 : IVec S16 32) : Prop :=
  (∀ a x, ((![v883] : Fin 1 → IVec S16 32) a x).toNat < S32768.size a)
theorem k0_idx44_inb : ∀ (v883 : IVec S16 32) (k0_hw44 : k0_chk44 v883), ∀ a x, ((![v883] : Fin 1 → IVec S16 32) a x).toNat < S32768.size a := fun v883 k0_hw44 => k0_hw44

def k0_chk45 (v900 : IVec S16 32) : Prop :=
  (∀ a x, ((![v900] : Fin 1 → IVec S16 32) a x).toNat < S49152.size a)
theorem k0_idx45_inb : ∀ (v900 : IVec S16 32) (k0_hw45 : k0_chk45 v900), ∀ a x, ((![v900] : Fin 1 → IVec S16 32) a x).toNat < S49152.size a := fun v900 k0_hw45 => k0_hw45

def k0_chk46 (v903 : IVec S16 32) : Prop :=
  (∀ a x, ((![v903] : Fin 1 → IVec S16 32) a x).toNat < S49152.size a)
theorem k0_idx46_inb : ∀ (v903 : IVec S16 32) (k0_hw46 : k0_chk46 v903), ∀ a x, ((![v903] : Fin 1 → IVec S16 32) a x).toNat < S49152.size a := fun v903 k0_hw46 => k0_hw46

def k0_chk47 (v906 : IVec S16 32) : Prop :=
  (∀ a x, ((![v906] : Fin 1 → IVec S16 32) a x).toNat < S49152.size a)
theorem k0_idx47_inb : ∀ (v906 : IVec S16 32) (k0_hw47 : k0_chk47 v906), ∀ a x, ((![v906] : Fin 1 → IVec S16 32) a x).toNat < S49152.size a := fun v906 k0_hw47 => k0_hw47

def k0_chk48 (v915 : IVec S16 32) : Prop :=
  (∀ a x, ((![v915] : Fin 1 → IVec S16 32) a x).toNat < S49152.size a)
theorem k0_idx48_inb : ∀ (v915 : IVec S16 32) (k0_hw48 : k0_chk48 v915), ∀ a x, ((![v915] : Fin 1 → IVec S16 32) a x).toNat < S49152.size a := fun v915 k0_hw48 => k0_hw48

def k0_chk49 (v918 : IVec S16 32) : Prop :=
  (∀ a x, ((![v918] : Fin 1 → IVec S16 32) a x).toNat < S49152.size a)
theorem k0_idx49_inb : ∀ (v918 : IVec S16 32) (k0_hw49 : k0_chk49 v918), ∀ a x, ((![v918] : Fin 1 → IVec S16 32) a x).toNat < S49152.size a := fun v918 k0_hw49 => k0_hw49

def k0_chk50 (v921 : IVec S16 32) : Prop :=
  (∀ a x, ((![v921] : Fin 1 → IVec S16 32) a x).toNat < S49152.size a)
theorem k0_idx50_inb : ∀ (v921 : IVec S16 32) (k0_hw50 : k0_chk50 v921), ∀ a x, ((![v921] : Fin 1 → IVec S16 32) a x).toNat < S49152.size a := fun v921 k0_hw50 => k0_hw50

def k0_chk51 (v941 : IVec S16 32) : Prop :=
  (∀ a x, ((![v941] : Fin 1 → IVec S16 32) a x).toNat < S32768.size a)
theorem k0_idx51_inb : ∀ (v941 : IVec S16 32) (k0_hw51 : k0_chk51 v941), ∀ a x, ((![v941] : Fin 1 → IVec S16 32) a x).toNat < S32768.size a := fun v941 k0_hw51 => k0_hw51

def k0_chk52 (v959 : IVec S16 32) : Prop :=
  (∀ a x, ((![v959] : Fin 1 → IVec S16 32) a x).toNat < S32768.size a)
theorem k0_idx52_inb : ∀ (v959 : IVec S16 32) (k0_hw52 : k0_chk52 v959), ∀ a x, ((![v959] : Fin 1 → IVec S16 32) a x).toNat < S32768.size a := fun v959 k0_hw52 => k0_hw52

def k0_chk53 (v985 : IVec S16 32) : Prop :=
  (∀ a x, ((![v985] : Fin 1 → IVec S16 32) a x).toNat < S32768.size a)
theorem k0_idx53_inb : ∀ (v985 : IVec S16 32) (k0_hw53 : k0_chk53 v985), ∀ a x, ((![v985] : Fin 1 → IVec S16 32) a x).toNat < S32768.size a := fun v985 k0_hw53 => k0_hw53

def k0_chk54 (v1003 : IVec S16 32) : Prop :=
  (∀ a x, ((![v1003] : Fin 1 → IVec S16 32) a x).toNat < S32768.size a)
theorem k0_idx54_inb : ∀ (v1003 : IVec S16 32) (k0_hw54 : k0_chk54 v1003), ∀ a x, ((![v1003] : Fin 1 → IVec S16 32) a x).toNat < S32768.size a := fun v1003 k0_hw54 => k0_hw54

def k0_chk55 (v1029 : IVec S16 32) : Prop :=
  (∀ a x, ((![v1029] : Fin 1 → IVec S16 32) a x).toNat < S32768.size a)
theorem k0_idx55_inb : ∀ (v1029 : IVec S16 32) (k0_hw55 : k0_chk55 v1029), ∀ a x, ((![v1029] : Fin 1 → IVec S16 32) a x).toNat < S32768.size a := fun v1029 k0_hw55 => k0_hw55

def k0_chk56 (v1047 : IVec S16 32) : Prop :=
  (∀ a x, ((![v1047] : Fin 1 → IVec S16 32) a x).toNat < S32768.size a)
theorem k0_idx56_inb : ∀ (v1047 : IVec S16 32) (k0_hw56 : k0_chk56 v1047), ∀ a x, ((![v1047] : Fin 1 → IVec S16 32) a x).toNat < S32768.size a := fun v1047 k0_hw56 => k0_hw56

def k0_chk57 (v1073 : IVec S16 32) : Prop :=
  (∀ a x, ((![v1073] : Fin 1 → IVec S16 32) a x).toNat < S32768.size a)
theorem k0_idx57_inb : ∀ (v1073 : IVec S16 32) (k0_hw57 : k0_chk57 v1073), ∀ a x, ((![v1073] : Fin 1 → IVec S16 32) a x).toNat < S32768.size a := fun v1073 k0_hw57 => k0_hw57

def k0_chk58 (v1091 : IVec S16 32) : Prop :=
  (∀ a x, ((![v1091] : Fin 1 → IVec S16 32) a x).toNat < S32768.size a)
theorem k0_idx58_inb : ∀ (v1091 : IVec S16 32) (k0_hw58 : k0_chk58 v1091), ∀ a x, ((![v1091] : Fin 1 → IVec S16 32) a x).toNat < S32768.size a := fun v1091 k0_hw58 => k0_hw58

def k0_chk59 (v1117 : IVec S16 32) : Prop :=
  (∀ a x, ((![v1117] : Fin 1 → IVec S16 32) a x).toNat < S32768.size a)
theorem k0_idx59_inb : ∀ (v1117 : IVec S16 32) (k0_hw59 : k0_chk59 v1117), ∀ a x, ((![v1117] : Fin 1 → IVec S16 32) a x).toNat < S32768.size a := fun v1117 k0_hw59 => k0_hw59

def k0_chk60 (v1135 : IVec S16 32) : Prop :=
  (∀ a x, ((![v1135] : Fin 1 → IVec S16 32) a x).toNat < S32768.size a)
theorem k0_idx60_inb : ∀ (v1135 : IVec S16 32) (k0_hw60 : k0_chk60 v1135), ∀ a x, ((![v1135] : Fin 1 → IVec S16 32) a x).toNat < S32768.size a := fun v1135 k0_hw60 => k0_hw60

def k0_chk61 (v1161 : IVec S16 32) : Prop :=
  (∀ a x, ((![v1161] : Fin 1 → IVec S16 32) a x).toNat < S32768.size a)
theorem k0_idx61_inb : ∀ (v1161 : IVec S16 32) (k0_hw61 : k0_chk61 v1161), ∀ a x, ((![v1161] : Fin 1 → IVec S16 32) a x).toNat < S32768.size a := fun v1161 k0_hw61 => k0_hw61

def k0_chk62 (v1179 : IVec S16 32) : Prop :=
  (∀ a x, ((![v1179] : Fin 1 → IVec S16 32) a x).toNat < S32768.size a)
theorem k0_idx62_inb : ∀ (v1179 : IVec S16 32) (k0_hw62 : k0_chk62 v1179), ∀ a x, ((![v1179] : Fin 1 → IVec S16 32) a x).toNat < S32768.size a := fun v1179 k0_hw62 => k0_hw62

def k0_chk63 (v1205 : IVec S16 32) : Prop :=
  (∀ a x, ((![v1205] : Fin 1 → IVec S16 32) a x).toNat < S32768.size a)
theorem k0_idx63_inb : ∀ (v1205 : IVec S16 32) (k0_hw63 : k0_chk63 v1205), ∀ a x, ((![v1205] : Fin 1 → IVec S16 32) a x).toNat < S32768.size a := fun v1205 k0_hw63 => k0_hw63

def k0_chk64 (v1223 : IVec S16 32) : Prop :=
  (∀ a x, ((![v1223] : Fin 1 → IVec S16 32) a x).toNat < S32768.size a)
theorem k0_idx64_inb : ∀ (v1223 : IVec S16 32) (k0_hw64 : k0_chk64 v1223), ∀ a x, ((![v1223] : Fin 1 → IVec S16 32) a x).toNat < S32768.size a := fun v1223 k0_hw64 => k0_hw64

def k0_chk65 (v1249 : IVec S16 32) : Prop :=
  (∀ a x, ((![v1249] : Fin 1 → IVec S16 32) a x).toNat < S32768.size a)
theorem k0_idx65_inb : ∀ (v1249 : IVec S16 32) (k0_hw65 : k0_chk65 v1249), ∀ a x, ((![v1249] : Fin 1 → IVec S16 32) a x).toNat < S32768.size a := fun v1249 k0_hw65 => k0_hw65

def k0_chk66 (v1267 : IVec S16 32) : Prop :=
  (∀ a x, ((![v1267] : Fin 1 → IVec S16 32) a x).toNat < S32768.size a)
theorem k0_idx66_inb : ∀ (v1267 : IVec S16 32) (k0_hw66 : k0_chk66 v1267), ∀ a x, ((![v1267] : Fin 1 → IVec S16 32) a x).toNat < S32768.size a := fun v1267 k0_hw66 => k0_hw66

def k0_chk67 (v1284 : IVec S16 32) : Prop :=
  (∀ a x, ((![v1284] : Fin 1 → IVec S16 32) a x).toNat < S49152.size a)
theorem k0_idx67_inb : ∀ (v1284 : IVec S16 32) (k0_hw67 : k0_chk67 v1284), ∀ a x, ((![v1284] : Fin 1 → IVec S16 32) a x).toNat < S49152.size a := fun v1284 k0_hw67 => k0_hw67

def k0_chk68 (v1287 : IVec S16 32) : Prop :=
  (∀ a x, ((![v1287] : Fin 1 → IVec S16 32) a x).toNat < S49152.size a)
theorem k0_idx68_inb : ∀ (v1287 : IVec S16 32) (k0_hw68 : k0_chk68 v1287), ∀ a x, ((![v1287] : Fin 1 → IVec S16 32) a x).toNat < S49152.size a := fun v1287 k0_hw68 => k0_hw68

def k0_chk69 (v1290 : IVec S16 32) : Prop :=
  (∀ a x, ((![v1290] : Fin 1 → IVec S16 32) a x).toNat < S49152.size a)
theorem k0_idx69_inb : ∀ (v1290 : IVec S16 32) (k0_hw69 : k0_chk69 v1290), ∀ a x, ((![v1290] : Fin 1 → IVec S16 32) a x).toNat < S49152.size a := fun v1290 k0_hw69 => k0_hw69

def k0_chk70 (v1299 : IVec S16 32) : Prop :=
  (∀ a x, ((![v1299] : Fin 1 → IVec S16 32) a x).toNat < S49152.size a)
theorem k0_idx70_inb : ∀ (v1299 : IVec S16 32) (k0_hw70 : k0_chk70 v1299), ∀ a x, ((![v1299] : Fin 1 → IVec S16 32) a x).toNat < S49152.size a := fun v1299 k0_hw70 => k0_hw70

def k0_chk71 (v1302 : IVec S16 32) : Prop :=
  (∀ a x, ((![v1302] : Fin 1 → IVec S16 32) a x).toNat < S49152.size a)
theorem k0_idx71_inb : ∀ (v1302 : IVec S16 32) (k0_hw71 : k0_chk71 v1302), ∀ a x, ((![v1302] : Fin 1 → IVec S16 32) a x).toNat < S49152.size a := fun v1302 k0_hw71 => k0_hw71

def k0_chk72 (v1305 : IVec S16 32) : Prop :=
  (∀ a x, ((![v1305] : Fin 1 → IVec S16 32) a x).toNat < S49152.size a)
theorem k0_idx72_inb : ∀ (v1305 : IVec S16 32) (k0_hw72 : k0_chk72 v1305), ∀ a x, ((![v1305] : Fin 1 → IVec S16 32) a x).toNat < S49152.size a := fun v1305 k0_hw72 => k0_hw72

def k0_chk73 (v1325 : IVec S16 32) : Prop :=
  (∀ a x, ((![v1325] : Fin 1 → IVec S16 32) a x).toNat < S32768.size a)
theorem k0_idx73_inb : ∀ (v1325 : IVec S16 32) (k0_hw73 : k0_chk73 v1325), ∀ a x, ((![v1325] : Fin 1 → IVec S16 32) a x).toNat < S32768.size a := fun v1325 k0_hw73 => k0_hw73

def k0_chk74 (v1343 : IVec S16 32) : Prop :=
  (∀ a x, ((![v1343] : Fin 1 → IVec S16 32) a x).toNat < S32768.size a)
theorem k0_idx74_inb : ∀ (v1343 : IVec S16 32) (k0_hw74 : k0_chk74 v1343), ∀ a x, ((![v1343] : Fin 1 → IVec S16 32) a x).toNat < S32768.size a := fun v1343 k0_hw74 => k0_hw74

def k0_chk75 (v1369 : IVec S16 32) : Prop :=
  (∀ a x, ((![v1369] : Fin 1 → IVec S16 32) a x).toNat < S32768.size a)
theorem k0_idx75_inb : ∀ (v1369 : IVec S16 32) (k0_hw75 : k0_chk75 v1369), ∀ a x, ((![v1369] : Fin 1 → IVec S16 32) a x).toNat < S32768.size a := fun v1369 k0_hw75 => k0_hw75

def k0_chk76 (v1387 : IVec S16 32) : Prop :=
  (∀ a x, ((![v1387] : Fin 1 → IVec S16 32) a x).toNat < S32768.size a)
theorem k0_idx76_inb : ∀ (v1387 : IVec S16 32) (k0_hw76 : k0_chk76 v1387), ∀ a x, ((![v1387] : Fin 1 → IVec S16 32) a x).toNat < S32768.size a := fun v1387 k0_hw76 => k0_hw76

def k0_chk77 (v1413 : IVec S16 32) : Prop :=
  (∀ a x, ((![v1413] : Fin 1 → IVec S16 32) a x).toNat < S32768.size a)
theorem k0_idx77_inb : ∀ (v1413 : IVec S16 32) (k0_hw77 : k0_chk77 v1413), ∀ a x, ((![v1413] : Fin 1 → IVec S16 32) a x).toNat < S32768.size a := fun v1413 k0_hw77 => k0_hw77

def k0_chk78 (v1431 : IVec S16 32) : Prop :=
  (∀ a x, ((![v1431] : Fin 1 → IVec S16 32) a x).toNat < S32768.size a)
theorem k0_idx78_inb : ∀ (v1431 : IVec S16 32) (k0_hw78 : k0_chk78 v1431), ∀ a x, ((![v1431] : Fin 1 → IVec S16 32) a x).toNat < S32768.size a := fun v1431 k0_hw78 => k0_hw78

def k0_chk79 (v1457 : IVec S16 32) : Prop :=
  (∀ a x, ((![v1457] : Fin 1 → IVec S16 32) a x).toNat < S32768.size a)
theorem k0_idx79_inb : ∀ (v1457 : IVec S16 32) (k0_hw79 : k0_chk79 v1457), ∀ a x, ((![v1457] : Fin 1 → IVec S16 32) a x).toNat < S32768.size a := fun v1457 k0_hw79 => k0_hw79

def k0_chk80 (v1475 : IVec S16 32) : Prop :=
  (∀ a x, ((![v1475] : Fin 1 → IVec S16 32) a x).toNat < S32768.size a)
theorem k0_idx80_inb : ∀ (v1475 : IVec S16 32) (k0_hw80 : k0_chk80 v1475), ∀ a x, ((![v1475] : Fin 1 → IVec S16 32) a x).toNat < S32768.size a := fun v1475 k0_hw80 => k0_hw80

def k0_chk81 (v1501 : IVec S16 32) : Prop :=
  (∀ a x, ((![v1501] : Fin 1 → IVec S16 32) a x).toNat < S32768.size a)
theorem k0_idx81_inb : ∀ (v1501 : IVec S16 32) (k0_hw81 : k0_chk81 v1501), ∀ a x, ((![v1501] : Fin 1 → IVec S16 32) a x).toNat < S32768.size a := fun v1501 k0_hw81 => k0_hw81

def k0_chk82 (v1519 : IVec S16 32) : Prop :=
  (∀ a x, ((![v1519] : Fin 1 → IVec S16 32) a x).toNat < S32768.size a)
theorem k0_idx82_inb : ∀ (v1519 : IVec S16 32) (k0_hw82 : k0_chk82 v1519), ∀ a x, ((![v1519] : Fin 1 → IVec S16 32) a x).toNat < S32768.size a := fun v1519 k0_hw82 => k0_hw82

def k0_chk83 (v1545 : IVec S16 32) : Prop :=
  (∀ a x, ((![v1545] : Fin 1 → IVec S16 32) a x).toNat < S32768.size a)
theorem k0_idx83_inb : ∀ (v1545 : IVec S16 32) (k0_hw83 : k0_chk83 v1545), ∀ a x, ((![v1545] : Fin 1 → IVec S16 32) a x).toNat < S32768.size a := fun v1545 k0_hw83 => k0_hw83

def k0_chk84 (v1563 : IVec S16 32) : Prop :=
  (∀ a x, ((![v1563] : Fin 1 → IVec S16 32) a x).toNat < S32768.size a)
theorem k0_idx84_inb : ∀ (v1563 : IVec S16 32) (k0_hw84 : k0_chk84 v1563), ∀ a x, ((![v1563] : Fin 1 → IVec S16 32) a x).toNat < S32768.size a := fun v1563 k0_hw84 => k0_hw84

def k0_chk85 (v1589 : IVec S16 32) : Prop :=
  (∀ a x, ((![v1589] : Fin 1 → IVec S16 32) a x).toNat < S32768.size a)
theorem k0_idx85_inb : ∀ (v1589 : IVec S16 32) (k0_hw85 : k0_chk85 v1589), ∀ a x, ((![v1589] : Fin 1 → IVec S16 32) a x).toNat < S32768.size a := fun v1589 k0_hw85 => k0_hw85

def k0_chk86 (v1607 : IVec S16 32) : Prop :=
  (∀ a x, ((![v1607] : Fin 1 → IVec S16 32) a x).toNat < S32768.size a)
theorem k0_idx86_inb : ∀ (v1607 : IVec S16 32) (k0_hw86 : k0_chk86 v1607), ∀ a x, ((![v1607] : Fin 1 → IVec S16 32) a x).toNat < S32768.size a := fun v1607 k0_hw86 => k0_hw86

def k0_chk87 (v1633 : IVec S16 32) : Prop :=
  (∀ a x, ((![v1633] : Fin 1 → IVec S16 32) a x).toNat < S32768.size a)
theorem k0_idx87_inb : ∀ (v1633 : IVec S16 32) (k0_hw87 : k0_chk87 v1633), ∀ a x, ((![v1633] : Fin 1 → IVec S16 32) a x).toNat < S32768.size a := fun v1633 k0_hw87 => k0_hw87

def k0_chk88 (v1651 : IVec S16 32) : Prop :=
  (∀ a x, ((![v1651] : Fin 1 → IVec S16 32) a x).toNat < S32768.size a)
theorem k0_idx88_inb : ∀ (v1651 : IVec S16 32) (k0_hw88 : k0_chk88 v1651), ∀ a x, ((![v1651] : Fin 1 → IVec S16 32) a x).toNat < S32768.size a := fun v1651 k0_hw88 => k0_hw88
def k0_off5 (k0_t1 : Fin k0_t1_loop.trips) (c0_i32_24 : BitVec 32) (c0_i32_25 : BitVec 32) : Fin 1 → Nat :=
  let c0_i32_0 : BitVec 32 := 0#32
  let c1_i32 : BitVec 32 := 1#32
  let arg10 : BitVec 32 := Scf.iv c0_i32_0 c1_i32 k0_t1
  let c32_i32_23 : BitVec 32 := 32#32
  let v47 : BitVec 32 := Scalar.muli arg10 c32_i32_23
  let v48 : BitVec 32 := Scalar.addi c0_i32_24 v47
  let v49 : BitVec 32 := Scalar.addi v48 c0_i32_25
  let v50 : Index := Scalar.indexCast v49
  ![v50.toNat]
def k0_off6 (i : grid0.Coords) (c0_i32_2 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c128_i32 : BitVec 32 := 128#32
  let v2 : BitVec 32 := Scalar.muli v1 c128_i32
  let v8 : BitVec 32 := Scalar.addi c0_i32_2 v2
  ![v8.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x4096 : Shape := ⟨2, ![4, 4096]⟩
abbrev S6291456 : Shape := ⟨1, ![6291456]⟩
abbrev S131072x8 : Shape := ⟨2, ![131072, 8]⟩
abbrev S2097152x3 : Shape := ⟨2, ![2097152, 3]⟩
abbrev S2097152x1 : Shape := ⟨2, ![2097152, 1]⟩
abbrev S2097152 : Shape := ⟨1, ![2097152]⟩
abbrev S_ : Shape := ⟨0, ![]⟩
abbrev S8 : Shape := ⟨1, ![8]⟩
abbrev S1x8 : Shape := ⟨2, ![1, 8]⟩
abbrev S2097152x8 : Shape := ⟨2, ![2097152, 8]⟩
abbrev S16777216 : Shape := ⟨1, ![16777216]⟩
abbrev S131072x128 : Shape := ⟨2, ![131072, 128]⟩
abbrev S131072x128x1 : Shape := ⟨3, ![131072, 128, 1]⟩
abbrev S1 : Shape := ⟨1, ![1]⟩
abbrev S1x1x1 : Shape := ⟨3, ![1, 1, 1]⟩
abbrev S4096x4096 : Shape := ⟨2, ![4096, 4096]⟩

abbrev nBuf : Space → Nat
  | .hbm => 58
  | .vmem => 0
  | .smem => 0
  | _ => 0

abbrev bufTy : (tb : Table) → Fin (tcTables nBuf tb) → BufTy
  | .hbm, ⟨0, _⟩ => ⟨S4x4096, .f32⟩
  | .hbm, ⟨1, _⟩ => ⟨S6291456, .i32⟩
  | .hbm, ⟨2, _⟩ => ⟨S131072x8, .f32⟩
  | .hbm, ⟨3, _⟩ => ⟨S2097152x3, .i32⟩
  | .hbm, ⟨4, _⟩ => ⟨S2097152x1, .i32⟩
  | .hbm, ⟨5, _⟩ => ⟨S2097152, .i32⟩
  | .hbm, ⟨6, _⟩ => ⟨S2097152x1, .i32⟩
  | .hbm, ⟨7, _⟩ => ⟨S2097152, .i32⟩
  | .hbm, ⟨8, _⟩ => ⟨S_, .i32⟩
  | .hbm, ⟨9, _⟩ => ⟨S2097152, .i32⟩
  | .hbm, ⟨10, _⟩ => ⟨S2097152, .i32⟩
  | .hbm, ⟨11, _⟩ => ⟨S2097152, .i32⟩
  | .hbm, ⟨12, _⟩ => ⟨S2097152x1, .i32⟩
  | .hbm, ⟨13, _⟩ => ⟨S2097152, .i32⟩
  | .hbm, ⟨14, _⟩ => ⟨S_, .i32⟩
  | .hbm, ⟨15, _⟩ => ⟨S2097152, .i32⟩
  | .hbm, ⟨16, _⟩ => ⟨S2097152, .i32⟩
  | .hbm, ⟨17, _⟩ => ⟨S2097152, .i32⟩
  | .hbm, ⟨18, _⟩ => ⟨S8, .i32⟩
  | .hbm, ⟨19, _⟩ => ⟨S_, .i32⟩
  | .hbm, ⟨20, _⟩ => ⟨S8, .i32⟩
  | .hbm, ⟨21, _⟩ => ⟨S8, .i32⟩
  | .hbm, ⟨22, _⟩ => ⟨S2097152x1, .i32⟩
  | .hbm, ⟨23, _⟩ => ⟨S1x8, .i32⟩
  | .hbm, ⟨24, _⟩ => ⟨S2097152x8, .i32⟩
  | .hbm, ⟨25, _⟩ => ⟨S2097152x8, .i32⟩
  | .hbm, ⟨26, _⟩ => ⟨S2097152x8, .i32⟩
  | .hbm, ⟨27, _⟩ => ⟨S_, .i32⟩
  | .hbm, ⟨28, _⟩ => ⟨S2097152x8, .i32⟩
  | .hbm, ⟨29, _⟩ => ⟨S2097152x8, .i32⟩
  | .hbm, ⟨30, _⟩ => ⟨S16777216, .i32⟩
  | .hbm, ⟨31, _⟩ => ⟨S131072x128, .i32⟩
  | .hbm, ⟨32, _⟩ => ⟨S_, .i32⟩
  | .hbm, ⟨33, _⟩ => ⟨S131072x128, .i32⟩
  | .hbm, ⟨34, _⟩ => ⟨S131072x128, .i1⟩
  | .hbm, ⟨35, _⟩ => ⟨S_, .i32⟩
  | .hbm, ⟨36, _⟩ => ⟨S131072x128, .i32⟩
  | .hbm, ⟨37, _⟩ => ⟨S131072x128, .i32⟩
  | .hbm, ⟨38, _⟩ => ⟨S131072x128, .i32⟩
  | .hbm, ⟨39, _⟩ => ⟨S131072x128x1, .i32⟩
  | .hbm, ⟨40, _⟩ => ⟨S1, .i32⟩
  | .hbm, ⟨41, _⟩ => ⟨S_, .i32⟩
  | .hbm, ⟨42, _⟩ => ⟨S131072x128x1, .i32⟩
  | .hbm, ⟨43, _⟩ => ⟨S131072x128x1, .i1⟩
  | .hbm, ⟨44, _⟩ => ⟨S1x1x1, .i32⟩
  | .hbm, ⟨45, _⟩ => ⟨S131072x128x1, .i32⟩
  | .hbm, ⟨46, _⟩ => ⟨S131072x128x1, .i1⟩
  | .hbm, ⟨47, _⟩ => ⟨S131072x128x1, .i1⟩
  | .hbm, ⟨48, _⟩ => ⟨S_, .i1⟩
  | .hbm, ⟨49, _⟩ => ⟨S131072x128, .i1⟩
  | .hbm, ⟨50, _⟩ => ⟨S131072x128, .f32⟩
  | .hbm, ⟨51, _⟩ => ⟨S_, .f32⟩
  | .hbm, ⟨52, _⟩ => ⟨S131072x128, .f32⟩
  | .hbm, ⟨53, _⟩ => ⟨S131072x128, .f32⟩
  | .hbm, ⟨54, _⟩ => ⟨S16777216, .f32⟩
  | .hbm, ⟨55, _⟩ => ⟨S4096x4096, .f32⟩
  | .hbm, ⟨56, _⟩ => ⟨S4096x4096, .f32⟩
  | .hbm, ⟨57, _⟩ => ⟨S4x4096, .f32⟩
  | _, _ => ⟨S4x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_call0_c : Ref sig .tc := ⟨.hbm, 32, rfl⟩
abbrev main_call0_v0 : Ref sig .tc := ⟨.hbm, 33, rfl⟩
abbrev main_call0_v1 : Ref sig .tc := ⟨.hbm, 34, rfl⟩
abbrev main_call0_c_0 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_c_1 : Ref sig .tc := ⟨.hbm, 40, rfl⟩
abbrev main_call0_c_2 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_c_3 : Ref sig .tc := ⟨.hbm, 48, rfl⟩
abbrev main_call0_v12 : Ref sig .tc := ⟨.hbm, 49, rfl⟩
abbrev main_call0_v13 : Ref sig .tc := ⟨.hbm, 50, rfl⟩
abbrev main_call0_cst : Ref sig .tc := ⟨.hbm, 51, rfl⟩
abbrev main_call0_v14 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩

abbrev nD : Nat := 1
abbrev τ : Topo := Topo.v7x

variable {F : FTy → Type} [FloatOps F]
-- ==== Proof.Setup.lean ====
/-
  The kernel as the SparseCore launch theorem sees it: its configuration, its facts, the resource algebra of its
  proof, and the names of the thread and of the memrefs its body is called with.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Codebook

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The label signature the launch runs over: the kernels' and the (absent) pipelines'. -/
abbrev ΛP : Labels := Pipeline.Sig Λ₀ (Fin 0) fun p => (pcfgs (F := F) p).Adm
/-- The launch configuration of the one SparseCore call. -/
abbrev K : SparseCore.Cfg τ sig (ΛP (F := F)) 1 := sc (F := F)
theorem nSub_zero : (K (F := F)).nSub 0 = 16 := rfl
theorem nCore_zero : (K (F := F)).nCore 0 = 2 := rfl
/-- The body table the launch runs. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores are distinct and not scoped, and no shared buffer is a task's. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

/-- The model every assertion of the proof lives in. -/
abbrev MM (F : FTy → Type) : Type _ := MT nD τ sig (HIx 1) (Elt F) ℕ UU ℕ

abbrev EH : Emb UH (MM F) := embL

/-! ## The tile and its memrefs -/

/-- The SparseCore and the tile of grid point `L`. -/
abbrev cV (L : grid0.Coords) : Fin τ.nSC := (L 0).castLE hcore0
abbrev jV (L : grid0.Coords) : Fin τ.nSub := (L 1).castLE hsub0
/-- The thread that runs the task of grid point `L` on device `d`. -/
abbrev thr (d : Dev nD) (L : grid0.Coords) : Thread nD τ := V d (cV L) (jV L)

abbrev xG : Memref sig .scVector .hbm S16384 .f32 := Memref.whole main_v0_scv
abbrev pG : Memref sig .scVector .hbm S6291456 .i32 := Memref.whole main_arg1_scv
abbrev cG : Memref sig .scVector .hbm S1048576 .f32 := Memref.whole main_v1_scv
abbrev oG : Memref sig .scVector .hbm S16384 .f32 := Memref.whole main_v2_scv
abbrev xM : Memref sig .scVector .vmem S16384 .f32 := Memref.whole cc0_scratch0
abbrev pM : Memref sig .scVector .vmem S49152 .i32 := Memref.whole cc0_scratch1
abbrev cM : Memref sig .scVector .vmem S32768 .f32 := Memref.whole cc0_scratch2
abbrev yM : Memref sig .scVector .vmem S512 .f32 := Memref.whole cc0_scratch3

end Cert.Proof.Codebook

end
-- ==== Proof.Trip.lean ====
/-
  One trip of the kernel's inner loop, and the whole of that loop, as a function of what the tile's memory holds.

  The trip only reads: the activations `x`, the packed words and the codebook rows, all in the tile's own memory. `Runs`
  says of such a program that it returns a given value and leaves the three buffers as they were; it composes.
-/
module

public import proofs.«01_k».proof.Proof.Setup

@[expose] public section

set_option maxRecDepth 16384

noncomputable section

namespace Cert.Proof.Codebook

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-! ## What the trip computes -/

/-- A flat buffer of extent `n` whose `k`-th element is `f k`. -/
abbrev flat {α : Type} (n : ℕ) (f : ℕ → α) : (⟨1, ![n]⟩ : Shape).Idx → α := fun i => f (i 0).val

/-- The gather of `f` at a vector of word indices. -/
abbrev pick {α : Type} (f : ℕ → α) (idx : IVec S16 32) : S16.Idx → α := fun j => f (idx j).toNat

/-- The sixteen rows' packed bits of group `gg` of trip `c`: three consecutive words, eight bits of each, the first lowest. -/
def bitsOf (PK : ℕ → BitVec 32) (base : IVec S16 32) (c : BitVec 32) (gg : ℕ) : IVec S16 32 :=
  let i0 : IVec S16 32 := addi base (broadcast S16 (Scalar.addi (Scalar.muli c 12#32) (BitVec.ofNat 32 (3 * gg))))
  ori (ori (pick PK i0) (shli (pick PK (addi i0 (broadcast S16 1#32))) (broadcast S16 8#32)))
    (shli (pick PK (addi i0 (broadcast S16 2#32))) (broadcast S16 16#32))

/-- The sixteen rows' first codebook elements of trip `c`: eight per group of four trips past the rows' own. -/
@[irreducible] def rowBase (base : IVec S16 32) (c : BitVec 32) : IVec S16 32 :=
  addi base (broadcast S16 (Scalar.shli (Scalar.shrsi c 2#32) 3#32))

/-- The sixteen rows' codebook values of column `kk` of trip `c`: its three bits select one of the group's eight. -/
def valOf (CB : ℕ → F .f32) (PK : ℕ → BitVec 32) (pbase cbase : IVec S16 32) (c : BitVec 32) (kk : ℕ) : FVec F S16 .f32 :=
  pick CB (addi (rowBase cbase c)
    (andi (shrsi (bitsOf PK pbase c (kk / 8)) (broadcast S16 (BitVec.ofNat 32 (3 * (kk % 8))))) (broadcast S16 7#32)))

/-- The accumulator of batch row `b` after the first `n` columns of trip `t`. -/
def stepOf (X CB : ℕ → F .f32) (PK : ℕ → BitVec 32) (pbase cbase : IVec S16 32) (b t : ℕ) (c : BitVec 32) (acc : FVec F S16 .f32) :
    ℕ → FVec F S16 .f32
  | 0 => acc
  | kk + 1 => addf (stepOf X CB PK pbase cbase b t c acc kk)
      (mulf (valOf CB PK pbase cbase c kk) (broadcast S16 (X (4096 * b + 32 * t + 16 * (kk / 16) + kk % 16))))

/-- The accumulator of batch row `b` after the first `n` trips. -/
def accOf (X CB : ℕ → F .f32) (PK : ℕ → BitVec 32) (pbase cbase : IVec S16 32) (b : ℕ) (acc : FVec F S16 .f32) : ℕ → FVec F S16 .f32
  | 0 => acc
  | t + 1 => stepOf X CB PK pbase cbase b t (BitVec.ofNat 32 t) (accOf X CB PK pbase cbase b acc t) 32

/-! ## The index checks -/

theorem toNat_and7 (w : BitVec 32) : (w &&& 7#32).toNat ≤ 7 := by
  rw [BitVec.toNat_and]; exact Nat.and_le_right

/-- A codebook index: a base with room for seven more, and a three-bit selector. -/
theorem chk_cb {v : IVec S16 32} (hv : ∀ x, (v x).toNat + 7 < 32768) (b : IVec S16 32) :
    ∀ a x, ((![addi v (andi b (broadcast S16 7#32))] : Fin 1 → IVec S16 32) a x).toNat < S32768.size a := by
  intro a x
  obtain rfl : a = 0 := Subsingleton.elim _ _
  show (v x + (b x &&& 7#32)).toNat < 32768
  have h1 := hv x
  have h2 := toNat_and7 (b x)
  rw [BitVec.toNat_add]; omega

/-- The first packed word of a group. -/
theorem toNat_word {w : BitVec 32} (hw : w.toNat ≤ 47616) {t : ℕ} (ht : t < 128) {k : BitVec 32} (hk : k.toNat ≤ 9) :
    (w + (BitVec.ofNat 32 t * 12#32 + k)).toNat ≤ 47616 + 12 * 127 + 9 := by
  have e : (BitVec.ofNat 32 t * 12#32).toNat = t * 12 := by
    rw [BitVec.toNat_mul, BitVec.toNat_ofNat, Nat.mod_eq_of_lt (show t < 2 ^ 32 by omega)]
    exact Nat.mod_eq_of_lt (show t * 12 < 2 ^ 32 by omega)
  have e' : (BitVec.ofNat 32 t * 12#32 + k).toNat = t * 12 + k.toNat := by
    rw [BitVec.toNat_add, e]; exact Nat.mod_eq_of_lt (by omega)
  rw [BitVec.toNat_add, e', Nat.mod_eq_of_lt (by omega)]; omega

/-- The counter of the inner loop is the trip's number. -/
theorem iv_eq (t : Fin k0_t2_loop.trips) : Scf.iv 0#32 1#32 t = BitVec.ofNat 32 t.val := by
  simp [Scf.iv]

theorem trips_le (t : Fin k0_t2_loop.trips) : t.val < 128 := t.isLt.trans_le k0_t2_abs.2.1

theorem chk_pk0 {v : IVec S16 32} (hv : ∀ x, (v x).toNat ≤ 47616) {t : ℕ} (ht : t < 128) {k : BitVec 32} (hk : k.toNat ≤ 9) :
    ∀ a x, ((![addi v (broadcast S16 (Scalar.addi (Scalar.muli (BitVec.ofNat 32 t) 12#32) k))] : Fin 1 → IVec S16 32) a x).toNat < S49152.size a := by
  intro a x
  obtain rfl : a = 0 := Subsingleton.elim _ _
  show (v x + (BitVec.ofNat 32 t * 12#32 + k)).toNat < 49152
  have := toNat_word (hv x) ht hk
  omega

theorem chk_pk1 {v : IVec S16 32} (hv : ∀ x, (v x).toNat ≤ 47616) {t : ℕ} (ht : t < 128) {k : BitVec 32} (hk : k.toNat ≤ 9) {j : BitVec 32} (hj : j.toNat ≤ 2) :
    ∀ a x, ((![addi (addi v (broadcast S16 (Scalar.addi (Scalar.muli (BitVec.ofNat 32 t) 12#32) k))) (broadcast S16 j)] : Fin 1 → IVec S16 32) a x).toNat < S49152.size a := by
  intro a x
  obtain rfl : a = 0 := Subsingleton.elim _ _
  show ((v x + (BitVec.ofNat 32 t * 12#32 + k)) + j).toNat < 49152
  have := toNat_word (hv x) ht hk
  rw [BitVec.toNat_add]; omega

/-- Four trips share eight codebook elements: trip `t`'s start eight times `t / 4` past the rows' own. -/
theorem toNat_group : ∀ t : Fin 128, (Scalar.shli (Scalar.shrsi (BitVec.ofNat 32 t.val) 2#32) 3#32).toNat = 8 * (t.val / 4) := by decide +kernel

theorem toNat_rowBase {v : IVec S16 32} {x : S16.Idx} (hv : (v x).toNat ≤ 32512) {t : ℕ} (ht : t < 128) :
    (rowBase v (BitVec.ofNat 32 t) x).toNat = (v x).toNat + 8 * (t / 4) := by
  have h := toNat_group ⟨t, ht⟩
  unfold rowBase
  show (v x + Scalar.shli (Scalar.shrsi (BitVec.ofNat 32 t) 2#32) 3#32).toNat = _
  rw [BitVec.toNat_add, h]
  exact Nat.mod_eq_of_lt (by simp only; omega)

/-! ## Programs that only read the three buffers -/

section Runs

variable (d : Dev nD) (L : grid0.Coords) (X CB : ℕ → F .f32) (PK : ℕ → BitVec 32)

/-- The three buffers the trip reads, at their contents. -/
def Held : sProp (MM F) :=
  iprop((xM.view.loc (thr d L) ↦{fullShare} (flat 16384 X : Buf (Elt F) (xM.view.loc (thr d L))))
    ∗ (pM.view.loc (thr d L) ↦{fullShare} (flat 49152 PK : Buf (Elt F) (pM.view.loc (thr d L))))
    ∗ (cM.view.loc (thr d L) ↦{fullShare} (flat 32768 CB : Buf (Elt F) (cM.view.loc (thr d L)))))

/-- The effects a tile's program makes. -/
abbrev Eff (F : FTy → Type) (L : grid0.Coords) : Type → Type := TpuEff nD τ sig (Elt F) Λ₀ (.scVector (cV L) (jV L))

/-- The program returns `v`, leaving the three buffers as they were. -/
def Runs {α : Type} (p : Prog (Eff F L) α) (v : α) : Prop :=
  ∀ Q : α → sProp (MM F), Held d L X CB PK
    ⊢ iprop((Held d L X CB PK -∗ Q v) -∗ wp frame (wpE (defs₀ (F := F)) 𝒱₀ (thr d L) none) Set.univ p Q)

variable {d L X CB PK}

theorem Runs.pure {α : Type} {v w : α} (h : v = w) : Runs d L X CB PK (pure v : Prog (Eff F L) α) w := by
  subst h
  intro Q
  iintro H HQ
  rw [wp_pure]
  imodintro
  iapply HQ; iexact H

theorem Runs.bind {α β : Type} {p : Prog (Eff F L) α} {k : α → Prog (Eff F L) β} {v : α} {w : β}
    (hp : Runs d L X CB PK p v) (hk : Runs d L X CB PK (k v) w) : Runs d L X CB PK (p >>= k) w := by
  intro Q
  iintro H HQ
  rw [wp_bind]
  iapply (hp _) $$ H
  iintro H
  iapply (hk _) $$ H
  iexact HQ

theorem Runs.assume {P : Prop} {dP : Decidable P} (h : P) :
    Runs d L X CB PK (Prog.lift (TpuEff.assume P dP) : Prog (Eff F L) (PLift P)) ⟨h⟩ := by
  intro Q
  iintro H HQ
  iapply (wp_assume 𝒱₀ (thr d L) none Set.univ h)
  rw [wp_ret]
  imodintro
  iapply HQ; iexact H

theorem Runs.gatherP {idx : IVec S16 32} {h : ∀ a x, ((![idx] : Fin 1 → IVec S16 32) a x).toNat < S49152.size a} {hl : pM.view.Loads} :
    Runs d L X CB PK (SparseCore.vectorLoadIdx pM ![idx] h hl : Prog (Eff F L) (Vec F S16 .i32)) (pick PK idx) := by
  suffices hs : Runs d L X CB PK (SparseCore.vectorLoadIdx pM ![idx] h hl >>= Pure.pure : Prog (Eff F L) _) (pick PK idx) by
    rwa [bind_pure] at hs
  intro Q
  unfold Held
  iintro ⟨Hx, Hp, Hc⟩ HQ
  iapply (SparseCore.wp_vectorLoadIdx 𝒱₀ (thr d L) none Set.univ (base := pM) (idxs := ![idx]) (h := h) (hl := hl) (k := Pure.pure)
    (S := Finset.univ) (Finset.subset_univ _)) $$ Hp
  iintro Hp
  rw [wp_pure]
  imodintro
  iapply (Entails.of_eq (congrArg Q (show pick PK idx = loadIdx ((pM.access (.whole S49152)).read (Elt F) (flat 49152 PK)) ![idx] h from by
    funext j; show _ = PK (0 + 1 * (idx j).toNat); rw [Nat.one_mul, Nat.zero_add])))
  iapply HQ
  isplitl [Hx]; · iexact Hx
  isplitl [Hp]; · iexact Hp
  iexact Hc

theorem Runs.gatherC {idx : IVec S16 32} {h : ∀ a x, ((![idx] : Fin 1 → IVec S16 32) a x).toNat < S32768.size a} {hl : cM.view.Loads} :
    Runs d L X CB PK (SparseCore.vectorLoadIdx cM ![idx] h hl : Prog (Eff F L) (Vec F S16 .f32)) (pick CB idx) := by
  suffices hs : Runs d L X CB PK (SparseCore.vectorLoadIdx cM ![idx] h hl >>= Pure.pure : Prog (Eff F L) _) (pick CB idx) by
    rwa [bind_pure] at hs
  intro Q
  unfold Held
  iintro ⟨Hx, Hp, Hc⟩ HQ
  iapply (SparseCore.wp_vectorLoadIdx 𝒱₀ (thr d L) none Set.univ (base := cM) (idxs := ![idx]) (h := h) (hl := hl) (k := Pure.pure)
    (S := Finset.univ) (Finset.subset_univ _)) $$ Hc
  iintro Hc
  rw [wp_pure]
  imodintro
  iapply (Entails.of_eq (congrArg Q (show pick CB idx = loadIdx ((cM.access (.whole S32768)).read (Elt F) (flat 32768 CB)) ![idx] h from by
    funext j; show _ = CB (0 + 1 * (idx j).toNat); rw [Nat.one_mul, Nat.zero_add])))
  iapply HQ
  isplitl [Hx]; · iexact Hx
  isplitl [Hp]; · iexact Hp
  iexact Hc

theorem Runs.loadX {off : Fin 1 → ℕ} {o : ℕ} (ho : off = ![o]) {inb : ∀ a, off a + S16.size a ≤ S16384.size a} {hl : xM.view.LoadsAt (Rect.unit (s := S16384) off S16.size inb).toLoadRect} :
    Runs d L X CB PK (Prog.lift (.load xM (Rect.unit (s := S16384) off S16.size inb).toLoadRect hl) : Prog (Eff F L) (Vec F S16 .f32))
      (fun j => X (o + (j 0).val)) := by
  subst ho
  intro Q
  unfold Held
  iintro ⟨Hx, Hp, Hc⟩ HQ
  iapply (wp_load_rect 𝒱₀ (thr d L) none Set.univ (m := xM) (r := Rect.unit (s := S16384) ![o] S16.size inb) (hl := hl) (k := Prog.ret)
    (S := Finset.univ) (Finset.subset_univ _)) $$ Hx
  iintro Hx
  rw [wp_ret]
  imodintro
  have e : ((xM.access (Rect.unit (s := S16384) ![o] S16.size inb)).read (Elt F) (flat 16384 X)) = (fun j => X (o + (j 0).val) : Vec F S16 .f32) := by
    funext j
    show X (o + 1 * (j 0).val) = _
    rw [Nat.one_mul]
  iapply (Entails.of_eq (congrArg Q e.symm))
  iapply HQ
  isplitl [Hx]; · iexact Hx
  isplitl [Hp]; · iexact Hp
  iexact Hc

theorem Runs.loop {σ : Type} {l : Scf.Loop 32} {hok : l.OK} {init : σ} {body : Fin l.trips → σ → Prog (Eff F L) σ} (S : ℕ → σ)
    (h0 : init = S 0) (hb : ∀ k : Fin l.trips, Runs d L X CB PK (body k (S k.val)) (S (k.val + 1))) :
    Runs d L X CB PK (Scf.Loop.for l hok init body) (S l.trips) := by
  subst h0
  have hI : ∀ (k : Fin l.trips) (acc : σ), iprop(⌜acc = S k.val⌝ ∗ Held d L X CB PK)
      ⊢ wp frame (wpE (defs₀ (F := F)) 𝒱₀ (thr d L) none) Set.univ (body k acc) (fun s => iprop(⌜s = S (k.val + 1)⌝ ∗ Held d L X CB PK)) := by
    intro k acc
    iintro ⟨%e, H⟩
    rw [e]
    iapply (hb k _) $$ H
    iintro H
    isplitr
    · ipureintro; rfl
    · iexact H
  intro Q
  iintro H HQ
  iapply (Scf.wp_for frame (wpE (defs₀ (F := F)) 𝒱₀ (thr d L) none) Set.univ l.lb l.ub l.st hok (S 0) body
    (fun n s => iprop(⌜s = S n⌝ ∗ Held d L X CB PK)) hI)
  isplitl [H]
  · isplitr
    · ipureintro; rfl
    · iexact H
  · iintro %acc ⟨%e, H⟩
    rw [e]
    iapply HQ; iexact H

end Runs

/-! ## The trip -/

section Trip

variable {d : Dev nD} {L : grid0.Coords} {X CB : ℕ → F .f32} {PK : ℕ → BitVec 32}

theorem off3_eq (t : Fin k0_t2_loop.trips) (b : Fin 4) : k0_off3 t (BitVec.ofNat 32 (4096 * b.val)) = ![4096 * b.val + 32 * t.val] :=
  k0_off3_eq t b
theorem off4_eq (t : Fin k0_t2_loop.trips) (b : Fin 4) : k0_off4 t (BitVec.ofNat 32 (4096 * b.val)) = ![4096 * b.val + 32 * t.val + 16] :=
  k0_off4_eq t b
theorem off4_last (t : Fin k0_t2_loop.trips) : k0_off4 t 12288#32 = ![4096 * 3 + 32 * t.val + 16] := k0_off4_eq t 3

set_option maxHeartbeats 4000000 in
theorem part1_runs (v29 v36 : IVec S16 32) (t : Fin k0_t2_loop.trips) :
    Runs d L X CB PK (k0_part1 (F := F) L xG (Memref.isWhole_whole _) pG (Memref.isWhole_whole _) cG (Memref.isWhole_whole _) oG (Memref.isWhole_whole _)
      xM (Memref.isWhole_whole _) pM (Memref.isWhole_whole _) cM (Memref.isWhole_whole _) yM (Memref.isWhole_whole _)
      cc0_scoped0 cc0_scoped1 cc0_scoped2 cc0_scoped3 cc0_scoped4 cc0_scoped5 cc0_scoped6 v29 v36 0#32 1#32 t)
      ⟨BitVec.ofNat 32 t.val, rowBase v29 (BitVec.ofNat 32 t.val),
       rowBase v36 (BitVec.ofNat 32 t.val),
       fun j => X (4096 * 0 + 32 * t.val + (j 0).val), fun j => X (4096 * 0 + 32 * t.val + 16 + (j 0).val),
       fun j => X (4096 * 1 + 32 * t.val + (j 0).val), fun j => X (4096 * 1 + 32 * t.val + 16 + (j 0).val),
       fun j => X (4096 * 2 + 32 * t.val + (j 0).val), fun j => X (4096 * 2 + 32 * t.val + 16 + (j 0).val),
       fun j => X (4096 * 3 + 32 * t.val + (j 0).val), Scalar.muli (BitVec.ofNat 32 t.val) 32#32, 12288#32⟩ := by
  rw [k0_part1_eq_skeleton]
  unfold k0_part1_skel
  refine Runs.bind (Runs.loadX (off3_eq t 0)) ?_
  refine Runs.bind (Runs.loadX (off4_eq t 0)) ?_
  refine Runs.bind (Runs.loadX (off3_eq t 1)) ?_
  refine Runs.bind (Runs.loadX (off4_eq t 1)) ?_
  refine Runs.bind (Runs.loadX (off3_eq t 2)) ?_
  refine Runs.bind (Runs.loadX (off4_eq t 2)) ?_
  refine Runs.bind (Runs.loadX (off3_eq t 3)) ?_
  refine Runs.pure ?_
  simp only [iv_eq, k0_pay1, k0_pay2, rowBase]
  rfl

theorem Runs.cast {α : Type} {p : Prog (Eff F L) α} {v w : α} (hp : Runs d L X CB PK p v) (h : v = w) : Runs d L X CB PK p w := h ▸ hp

section
attribute [local irreducible] addi andi ori shrsi shli broadcast Scalar.addi Scalar.muli

set_option maxHeartbeats 40000000 in
/-- One trip of the inner loop: each of the eight accumulators advances by its 32 columns. -/
theorem trip_runs {v18 v22 v29 v36 : IVec S16 32} (h18 : ∀ x, (v18 x).toNat ≤ 47616) (h22 : ∀ x, (v22 x).toNat ≤ 47616)
    (t1 : Fin k0_t1_loop.trips) (c : BitVec 32) (z0 z1 z2 z3 z4 z5 z6 z7 : FVec F S16 .f32) (t : Fin k0_t2_loop.trips)
    (h29 : ∀ x, (rowBase v29 (BitVec.ofNat 32 t.val) x).toNat + 7 < 32768)
    (h36 : ∀ x, (rowBase v36 (BitVec.ofNat 32 t.val) x).toNat + 7 < 32768)
    (a0 a1 a2 a3 a4 a5 a6 a7 : FVec F S16 .f32) :
    Runs d L X CB PK (k0_t2_body (F := F) L xG (Memref.isWhole_whole _) pG (Memref.isWhole_whole _) cG (Memref.isWhole_whole _) oG (Memref.isWhole_whole _)
      xM (Memref.isWhole_whole _) pM (Memref.isWhole_whole _) cM (Memref.isWhole_whole _) yM (Memref.isWhole_whole _)
      cc0_scoped0 cc0_scoped1 cc0_scoped2 cc0_scoped3 cc0_scoped4 cc0_scoped5 cc0_scoped6
      t1 c v18 v22 v29 v36 z0 z1 z2 z3 z4 z5 z6 z7 t (a0, a1, a2, a3, a4, a5, a6, a7))
      (stepOf X CB PK v18 v29 0 t.val (BitVec.ofNat 32 t.val) a0 32, stepOf X CB PK v18 v29 1 t.val (BitVec.ofNat 32 t.val) a1 32,
       stepOf X CB PK v18 v29 2 t.val (BitVec.ofNat 32 t.val) a2 32, stepOf X CB PK v18 v29 3 t.val (BitVec.ofNat 32 t.val) a3 32,
       stepOf X CB PK v22 v36 0 t.val (BitVec.ofNat 32 t.val) a4 32, stepOf X CB PK v22 v36 1 t.val (BitVec.ofNat 32 t.val) a5 32,
       stepOf X CB PK v22 v36 2 t.val (BitVec.ofNat 32 t.val) a6 32, stepOf X CB PK v22 v36 3 t.val (BitVec.ofNat 32 t.val) a7 32) := by
  have ht : t.val < 128 := trips_le t
  eapply Runs.cast
  case hp =>
    unfold k0_t2_body

    repeat first
      | with_reducible eapply Runs.bind
      | with_reducible refine Runs.assume ?_
      | with_reducible exact Runs.gatherC
      | with_reducible exact Runs.gatherP
      | with_reducible exact Runs.loadX (off4_last t)
      | with_reducible exact Runs.pure rfl
      | with_reducible exact part1_runs v29 v36 t
      | (rw [k0_part31_eq_skeleton]; unfold k0_part31_skel)
      | (rw [k0_part2_eq_skeleton]; unfold k0_part2_skel)
      | (rw [k0_part3_eq_skeleton]; unfold k0_part3_skel)
      | (rw [k0_part4_eq_skeleton]; unfold k0_part4_skel)
      | (rw [k0_part5_eq_skeleton]; unfold k0_part5_skel)
      | (rw [k0_part6_eq_skeleton]; unfold k0_part6_skel)
      | (rw [k0_part7_eq_skeleton]; unfold k0_part7_skel)
      | (rw [k0_part8_eq_skeleton]; unfold k0_part8_skel)
      | (rw [k0_part9_eq_skeleton]; unfold k0_part9_skel)
      | (rw [k0_part10_eq_skeleton]; unfold k0_part10_skel)
      | (rw [k0_part11_eq_skeleton]; unfold k0_part11_skel)
      | (rw [k0_part12_eq_skeleton]; unfold k0_part12_skel)
      | (rw [k0_part13_eq_skeleton]; unfold k0_part13_skel)
      | (rw [k0_part14_eq_skeleton]; unfold k0_part14_skel)
      | (rw [k0_part15_eq_skeleton]; unfold k0_part15_skel)
      | (rw [k0_part16_eq_skeleton]; unfold k0_part16_skel)
      | (rw [k0_part17_eq_skeleton]; unfold k0_part17_skel)
      | (rw [k0_part18_eq_skeleton]; unfold k0_part18_skel)
      | (rw [k0_part19_eq_skeleton]; unfold k0_part19_skel)
      | (rw [k0_part20_eq_skeleton]; unfold k0_part20_skel)
      | (rw [k0_part21_eq_skeleton]; unfold k0_part21_skel)
      | (rw [k0_part22_eq_skeleton]; unfold k0_part22_skel)
      | (rw [k0_part23_eq_skeleton]; unfold k0_part23_skel)
      | (rw [k0_part24_eq_skeleton]; unfold k0_part24_skel)
      | (rw [k0_part25_eq_skeleton]; unfold k0_part25_skel)
      | (rw [k0_part26_eq_skeleton]; unfold k0_part26_skel)
      | (rw [k0_part27_eq_skeleton]; unfold k0_part27_skel)
      | (rw [k0_part28_eq_skeleton]; unfold k0_part28_skel)
      | (rw [k0_part29_eq_skeleton]; unfold k0_part29_skel)
      | (rw [k0_part30_eq_skeleton]; unfold k0_part30_skel)
      | exact chk_cb h29 _
      | exact chk_cb h36 _
      | exact chk_pk0 h18 ht (by decide)
      | exact chk_pk0 h22 ht (by decide)
      | exact chk_pk1 h18 ht (by decide) (by decide)
      | exact chk_pk1 h22 ht (by decide) (by decide)
  repeat' refine Prod.ext ?_ ?_
  all_goals rfl

end

theorem trips_eq : k0_t2_loop.trips = 128 := by decide

/-- The inner loop: each of the eight accumulators takes in all 128 trips. -/
theorem loop_runs {v18 v22 v29 v36 : IVec S16 32} (h18 : ∀ x, (v18 x).toNat ≤ 47616) (h22 : ∀ x, (v22 x).toNat ≤ 47616)
    (h29 : ∀ x, (v29 x).toNat ≤ 32512) (h36 : ∀ x, (v36 x).toNat ≤ 32512)
    (t1 : Fin k0_t1_loop.trips) (c : BitVec 32) (z0 z1 z2 z3 z4 z5 z6 z7 : FVec F S16 .f32) :
    Runs d L X CB PK (Scf.Loop.for k0_t2_loop k0_t2_ok (z0, z1, z2, z3, z4, z5, z6, z7) (k0_t2_body (F := F) L xG (Memref.isWhole_whole _) pG (Memref.isWhole_whole _) cG (Memref.isWhole_whole _) oG (Memref.isWhole_whole _)
      xM (Memref.isWhole_whole _) pM (Memref.isWhole_whole _) cM (Memref.isWhole_whole _) yM (Memref.isWhole_whole _)
      cc0_scoped0 cc0_scoped1 cc0_scoped2 cc0_scoped3 cc0_scoped4 cc0_scoped5 cc0_scoped6
      t1 c v18 v22 v29 v36 z0 z1 z2 z3 z4 z5 z6 z7))
      (accOf X CB PK v18 v29 0 z0 128, accOf X CB PK v18 v29 1 z1 128, accOf X CB PK v18 v29 2 z2 128, accOf X CB PK v18 v29 3 z3 128,
       accOf X CB PK v22 v36 0 z4 128, accOf X CB PK v22 v36 1 z5 128, accOf X CB PK v22 v36 2 z6 128, accOf X CB PK v22 v36 3 z7 128) := by
  refine Runs.cast (Runs.loop (fun t => (accOf X CB PK v18 v29 0 z0 t, accOf X CB PK v18 v29 1 z1 t, accOf X CB PK v18 v29 2 z2 t, accOf X CB PK v18 v29 3 z3 t,
       accOf X CB PK v22 v36 0 z4 t, accOf X CB PK v22 v36 1 z5 t, accOf X CB PK v22 v36 2 z6 t, accOf X CB PK v22 v36 3 z7 t)) rfl fun k => ?_) (by rw [trips_eq])
  have hk := trips_le k
  refine trip_runs h18 h22 t1 c _ _ _ _ _ _ _ _ k (fun x => ?_) (fun x => ?_) _ _ _ _ _ _ _ _
  · rw [toNat_rowBase (h29 x) hk]; have := h29 x; omega
  · rw [toNat_rowBase (h36 x) hk]; have := h36 x; omega

end Trip

end Cert.Proof.Codebook

end
-- ==== Proof.Body.lean ====
/-
  The task of one tile: the copies in, the four passes over its 128 rows, the copies out; with what it leaves in the
  result array.
-/
module

public import proofs.«01_k».proof.Proof.Trip

@[expose] public section

set_option maxRecDepth 16384

noncomputable section

namespace Cert.Proof.Codebook

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-! ## Flat buffers by position -/

/-- Element `k` of a flat buffer of extent `n`. -/
def nth {α : Type} {n : ℕ} (hn : 0 < n) (f : (⟨1, ![n]⟩ : Shape).Idx → α) (k : ℕ) : α :=
  f (fun a => ⟨k % n, by obtain rfl : a = 0 := Subsingleton.elim _ _; exact Nat.mod_lt _ hn⟩)

theorem nth_eq {α : Type} {n : ℕ} (hn : 0 < n) (f : (⟨1, ![n]⟩ : Shape).Idx → α) {k : ℕ} (i : (⟨1, ![n]⟩ : Shape).Idx) (h : k = (i 0).val) :
    nth hn f k = f i := by
  unfold nth
  congr 1
  funext a
  obtain rfl : a = 0 := Subsingleton.elim _ _
  refine Fin.ext ?_
  show k % n = (i 0).val
  rw [h]
  exact Nat.mod_eq_of_lt (i 0).isLt

theorem flat_nth {α : Type} {n : ℕ} (hn : 0 < n) (f : (⟨1, ![n]⟩ : Shape).Idx → α) : flat n (nth hn f) = f :=
  funext fun i => nth_eq hn f i rfl

/-! ## What the tile computes -/

/-- The sixteen lanes' numbers. -/
abbrev lanes : IVec S16 32 := iota .scVector S16 32 [0] iota_S16_d0_w32_scVector

/-- Where the sixteen rows of row group `rg` begin in a pass's packed words: 1536 words a row. -/
def pBase (rg : ℕ) : IVec S16 32 := addi (muli lanes (broadcast S16 1536#32)) (broadcast S16 (BitVec.ofNat 32 (24576 * rg)))

/-- Where the sixteen rows of row group `rg` of pass `p` begin in the tile's codebooks: 256 elements a row. -/
def cBase (p rg : ℕ) : IVec S16 32 :=
  muli (addi (addi lanes (broadcast S16 (Scalar.muli (BitVec.ofNat 32 p) 32#32))) (broadcast S16 (BitVec.ofNat 32 (16 * rg)))) (broadcast S16 256#32)

theorem toNat_lanes (x : S16.Idx) : (lanes x).toNat = (x 0).val := by
  have h : (x 0).val < 16 := (x 0).isLt
  show (BitVec.ofNat 32 (0 * 16 + (x 0).val)).toNat = _
  rw [BitVec.toNat_ofNat, Nat.zero_mul, Nat.zero_add]
  exact Nat.mod_eq_of_lt (by omega)

theorem toNat_pBase {rg : ℕ} (hrg : rg < 2) (x : S16.Idx) : (pBase rg x).toNat = 1536 * (x 0).val + 24576 * rg := by
  have h : (x 0).val < 16 := (x 0).isLt
  show (lanes x * 1536#32 + BitVec.ofNat 32 (24576 * rg)).toNat = _
  have e : (lanes x * 1536#32).toNat = 1536 * (x 0).val := by
    rw [BitVec.toNat_mul, toNat_lanes, Nat.mul_comm]
    exact Nat.mod_eq_of_lt (show 1536 * (x 0).val < 2 ^ 32 by omega)
  rw [BitVec.toNat_add, e, BitVec.toNat_ofNat, Nat.mod_eq_of_lt (show 24576 * rg < 2 ^ 32 by omega)]
  exact Nat.mod_eq_of_lt (by omega)

theorem toNat_cBase {p rg : ℕ} (hp : p < 4) (hrg : rg < 2) (x : S16.Idx) : (cBase p rg x).toNat = 256 * ((x 0).val + 32 * p + 16 * rg) := by
  have h : (x 0).val < 16 := (x 0).isLt
  show ((lanes x + BitVec.ofNat 32 p * 32#32 + BitVec.ofNat 32 (16 * rg)) * 256#32).toNat = _
  have e1 : (BitVec.ofNat 32 p * 32#32).toNat = 32 * p := by
    rw [BitVec.toNat_mul, BitVec.toNat_ofNat, Nat.mod_eq_of_lt (show p < 2 ^ 32 by omega), Nat.mul_comm]
    exact Nat.mod_eq_of_lt (show 32 * p < 2 ^ 32 by omega)
  have e2 : (lanes x + BitVec.ofNat 32 p * 32#32).toNat = (x 0).val + 32 * p := by
    rw [BitVec.toNat_add, toNat_lanes, e1]
    exact Nat.mod_eq_of_lt (by omega)
  have e3 : (lanes x + BitVec.ofNat 32 p * 32#32 + BitVec.ofNat 32 (16 * rg)).toNat = (x 0).val + 32 * p + 16 * rg := by
    rw [BitVec.toNat_add, e2, BitVec.toNat_ofNat, Nat.mod_eq_of_lt (show 16 * rg < 2 ^ 32 by omega)]
    exact Nat.mod_eq_of_lt (by omega)
  rw [BitVec.toNat_mul, e3, Nat.mul_comm]
  exact Nat.mod_eq_of_lt (show 256 * _ < 2 ^ 32 by omega)

/-- The accumulators' start. -/
def zeros : FVec F S16 .f32 := broadcast S16 (Scalar.ofBits .f32 0x00000000#32)

section Values

variable (xb : S16384.Idx → F .f32) (pb : S6291456.Idx → BitVec 32) (cb : S1048576.Idx → F .f32)

/-- The activations by position. -/
def Xn : ℕ → F .f32 := nth (n := 16384) (by decide) xb
/-- Tile `w`'s codebooks by position. -/
def Cn (w : ℕ) : ℕ → F .f32 := fun k => nth (n := 1048576) (by decide) cb (32768 * w + k)
/-- The packed words of tile `w`'s pass `p` by position. -/
def Pn (w p : ℕ) : ℕ → BitVec 32 := fun k => nth (n := 6291456) (by decide) pb (196608 * w + 49152 * p + k)

/-- What tile `w` computes for batch row `b` and its row `r`. -/
def yAt (w b r : ℕ) : F .f32 :=
  accOf (Xn xb) (Cn cb w) (Pn pb w (r / 32)) (pBase (r / 16 % 2)) (cBase (r / 32) (r / 16 % 2)) b zeros 128
    (fun a => ⟨r % 16, by obtain rfl : a = 0 := Subsingleton.elim _ _; exact Nat.mod_lt _ (by decide)⟩)

/-- The whole result array. -/
def gAt : S16384.Idx → F .f32 := fun i => yAt xb pb cb ((i 0).val % 4096 / 128) ((i 0).val / 4096) ((i 0).val % 128)

end Values

/-- The tile's number. -/
abbrev wid (L : grid0.Coords) : ℕ := 16 * (L 0).val + (L 1).val

/-! ## A pass -/

section Tile

variable (d : Dev nD) (L : grid0.Coords) (xb : S16384.Idx → F .f32) (pb : S6291456.Idx → BitVec 32) (cb : S1048576.Idx → F .f32)
  (qx qp qc : PosShare TreeShare)

/-- Rows `< 32 n` of the tile's result are in `f`, a batch row every 128 elements. -/
def Done (n : ℕ) (f : S512.Idx → F .f32) : Prop :=
  ∀ (b r : ℕ) (i : S512.Idx), (i 0).val = 128 * b + r → r < 128 → r < 32 * n → f i = yAt xb pb cb (wid L) b r

/-- Before pass `n`. -/
def inv (O : CellTallies nD τ sig (HIx 1)) (W : Waits sig (HIx 1)) (n : ℕ) (_ : BitVec 32) : sProp (MM F) :=
  iprop(Transfers.MayWaits (thr d L) (none : HIx 1) O
    ∗ (pG.view.loc (thr d L) ↦{qp} (pb : Buf (Elt F) (pG.view.loc (thr d L))))
    ∗ (xM.view.loc (thr d L) ↦{fullShare} (flat 16384 (Xn xb) : Buf (Elt F) (xM.view.loc (thr d L))))
    ∗ (cM.view.loc (thr d L) ↦{fullShare} (flat 32768 (Cn cb (wid L)) : Buf (Elt F) (cM.view.loc (thr d L))))
    ∗ (∃ f, pM.view.loc (thr d L) ↦{fullShare} f)
    ∗ (∃ f, ⌜Done L xb pb cb n f⌝ ∗ (yM.view.loc (thr d L) ↦{fullShare} (f : Buf (Elt F) (yM.view.loc (thr d L)))))
    ∗ semVal (thr d L, SemLoc.dma cc0_scoped2.sem) 0
    ∗ ∃ W', ⌜∀ p ∈ W', p ∈ W ∨ p.2 = none⌝ ∗ owes (thr d L) O W')

theorem lt_trips (k : Fin k0_t1_loop.trips) : k.val < 4 := k.isLt.trans_le k0_t1_abs.2.1

/-- What the copy of a pass's packed words brings. -/
theorem read_packed (k : Fin k0_t1_loop.trips) (h) :
    (pG.slice (Rect.unit (s := S6291456) (k0_off2 L k) S49152.size (k0_off2_inb L k)) h).view.read (Elt F) pb = flat 49152 (Pn pb (wid L) k.val) := by
  funext x
  refine (nth_eq _ pb _ ?_).symm
  refine Eq.trans ?_ (congrArg (· + 1 * (x 0).val) (congrFun (k0_off2_eq L k) 0).symm)
  show 196608 * (16 * (L 0).val + (L 1).val) + 49152 * k.val + (x 0).val = 3145728 * (L 0).val + 196608 * (L 1).val + 49152 * k.val + 1 * (x 0).val
  omega

/-- What the copy of the tile's codebooks brings. -/
theorem read_books (h) :
    (cG.slice (Rect.unit (s := S1048576) (k0_off1 L) S32768.size (k0_off1_inb L)) h).view.read (Elt F) cb = flat 32768 (Cn cb (wid L)) := by
  funext x
  refine (nth_eq _ cb _ ?_).symm
  refine Eq.trans ?_ (congrArg (· + 1 * (x 0).val) (congrFun (k0_off1_eq L) 0).symm)
  show 32768 * (16 * (L 0).val + (L 1).val) + (x 0).val = 524288 * (L 0).val + 32768 * (L 1).val + 1 * (x 0).val
  omega

/-- The store of pass `k` for batch row `a` and row group `c`. -/
def piece (k : Fin k0_t1_loop.trips) (a : Fin 4) (c : Fin 2) : View.Piece (Elt F) S512 .f32 :=
  ⟨Rect.unit (s := S512) (k0_off5 k (BitVec.ofNat 32 (128 * a.val)) (BitVec.ofNat 32 (16 * c.val))) S16.size (k0_off5_inb k a c),
    accOf (Xn xb) (Cn cb (wid L)) (Pn pb (wid L) k.val) (pBase c.val) (cBase k.val c.val) a.val zeros 128⟩

/-- The stores of pass `k`, the last first. -/
def pieces (k : Fin k0_t1_loop.trips) : List (View.Piece (Elt F) S512 .f32) :=
  [piece L xb pb cb k 3 1, piece L xb pb cb k 2 1, piece L xb pb cb k 1 1, piece L xb pb cb k 0 1,
   piece L xb pb cb k 3 0, piece L xb pb cb k 2 0, piece L xb pb cb k 1 0, piece L xb pb cb k 0 0]

theorem mem_pieces (k : Fin k0_t1_loop.trips) (p : View.Piece (Elt F) S512 .f32) :
    p ∈ pieces L xb pb cb k ↔ ∃ a c, p = piece L xb pb cb k a c := by
  constructor
  · intro h
    simp only [pieces, List.mem_cons, List.not_mem_nil, or_false] at h
    rcases h with h | h | h | h | h | h | h | h <;> exact ⟨_, _, h⟩
  · rintro ⟨a, c, rfl⟩
    fin_cases a <;> fin_cases c <;> simp [pieces]

theorem mem_piece (k : Fin k0_t1_loop.trips) (a : Fin 4) (c : Fin 2) (y : S512.Idx) :
    y ∈ (piece L xb pb cb k a c).1.set ↔ 128 * a.val + 32 * k.val + 16 * c.val ≤ (y 0).val ∧ (y 0).val < 128 * a.val + 32 * k.val + 16 * c.val + 16 := by
  unfold piece
  rw [Rect.mem_set_unit, Fin.forall_fin_one, k0_off5_eq]
  rfl

/-- Each store writes what the tile computes for the rows it covers. -/
theorem piece_value (k : Fin k0_t1_loop.trips) (a : Fin 4) (c : Fin 2) (x : (piece L xb pb cb k a c).1.shape.Idx) :
    (piece L xb pb cb k a c).2 x
      = yAt xb pb cb (wid L) (((piece L xb pb cb k a c).1.emb x 0).val / 128) (((piece L xb pb cb k a c).1.emb x 0).val % 128) := by
  have hk := lt_trips k
  have hx : (x 0).val < 16 := (x 0).isLt
  have he : ((piece L xb pb cb k a c).1.emb x 0).val = 128 * a.val + 32 * k.val + 16 * c.val + (x 0).val := by
    show k0_off5 k (BitVec.ofNat 32 (128 * a.val)) (BitVec.ofNat 32 (16 * c.val)) 0 + 1 * (x 0).val = _
    rw [k0_off5_eq, Nat.one_mul]
    rfl
  have ha := a.isLt
  have hc := c.isLt
  rw [he, show (128 * a.val + 32 * k.val + 16 * c.val + (x 0).val) / 128 = a.val by omega,
    show (128 * a.val + 32 * k.val + 16 * c.val + (x 0).val) % 128 = 32 * k.val + 16 * c.val + (x 0).val by omega]
  unfold yAt
  rw [show (32 * k.val + 16 * c.val + (x 0).val) / 32 = k.val by omega, show (32 * k.val + 16 * c.val + (x 0).val) / 16 % 2 = c.val by omega]
  show accOf _ _ _ _ _ _ _ _ _ = accOf _ _ _ _ _ _ _ _ _
  congr 1
  funext z
  obtain rfl : z = 0 := Subsingleton.elim _ _
  refine Fin.ext ?_
  show (x 0).val = (32 * k.val + 16 * c.val + (x 0).val) % 16
  omega

/-- After pass `k`'s stores the rows of the passes up to it are done. -/
theorem done_succ (fy : S512.Idx → F .f32) (k : Fin k0_t1_loop.trips) (hy : Done L xb pb cb k.val fy) :
    Done L xb pb cb (k.val + 1) (yM.view.writes (Elt F) fy (pieces L xb pb cb k)) := by
  intro b r i hi hr hlt
  have hk := lt_trips k
  have hi2 : (i 0).val < 512 := (i 0).isLt
  have hrd : ∀ g : yM.view.ty.Contents (Elt F), yM.view.read (Elt F) g = g := fun g => rfl
  by_cases hc : 32 * k.val ≤ r
  · have h := View.read_writes_apply_of_pieces yM.view fy
      (fun i => yAt xb pb cb (wid L) ((i 0).val / 128) ((i 0).val % 128)) (pieces L xb pb cb k)
      (fun p hp x => by obtain ⟨a, c, rfl⟩ := (mem_pieces L xb pb cb k p).mp hp; exact piece_value L xb pb cb k a c x) i
      ⟨piece L xb pb cb k ⟨b, by omega⟩ ⟨(r - 32 * k.val) / 16, by omega⟩, (mem_pieces L xb pb cb k _).mpr ⟨_, _, rfl⟩,
        (mem_piece L xb pb cb k _ _ i).mpr ⟨by dsimp only; omega, by dsimp only; omega⟩⟩
    rw [hrd] at h
    rw [h]
    dsimp only
    rw [hi, show (128 * b + r) / 128 = b by omega, show (128 * b + r) % 128 = r by omega]
  · have h := View.read_writes_apply_of_forall_not_mem yM.view fy i (pieces L xb pb cb k)
      (fun p hp hm => by
        obtain ⟨a, c, rfl⟩ := (mem_pieces L xb pb cb k p).mp hp
        have := (mem_piece L xb pb cb k a c i).mp hm
        omega)
    rw [hrd] at h
    rw [h]
    exact hy b r i hi hr (by omega)

theorem pay462_eq (k : Fin k0_t1_loop.trips) : k0_pay462 lanes 0#32 1#32 k = cBase k.val 0 := by
  have e : Scf.iv 0#32 1#32 k = BitVec.ofNat 32 k.val := by simp [Scf.iv]
  show muli (addi (addi lanes (broadcast S16 (Scalar.muli (Scf.iv 0#32 1#32 k) 32#32))) (broadcast S16 0#32)) (broadcast S16 256#32) = _
  rw [e]
  rfl

theorem pay463_eq (k : Fin k0_t1_loop.trips) : k0_pay463 lanes 0#32 1#32 k = cBase k.val 1 := by
  have e : Scf.iv 0#32 1#32 k = BitVec.ofNat 32 k.val := by simp [Scf.iv]
  show muli (addi (addi lanes (broadcast S16 (Scalar.muli (Scf.iv 0#32 1#32 k) 32#32))) (broadcast S16 16#32)) (broadcast S16 256#32) = _
  rw [e]
  rfl

theorem pBase_le {rg : ℕ} (hrg : rg < 2) (x : S16.Idx) : (pBase rg x).toNat ≤ 47616 := by
  have h : (x 0).val < 16 := (x 0).isLt
  rw [toNat_pBase hrg]
  omega

theorem cBase_le {p rg : ℕ} (hp : p < 4) (hrg : rg < 2) (x : S16.Idx) : (cBase p rg x).toNat ≤ 32512 := by
  have h : (x 0).val < 16 := (x 0).isLt
  rw [toNat_cBase hp hrg]
  omega

set_option maxHeartbeats 4000000 in
/-- One pass: the packed words copied in, the accumulators run over them, their sixteen rows stored for each batch row. -/
theorem pass (O : CellTallies nD τ sig (HIx 1)) (W : Waits sig (HIx 1)) (v2 : BitVec 32) (k : Fin k0_t1_loop.trips) (acc : BitVec 32) :
    inv d L xb pb cb qp O W k.val acc
      ⊢ wp frame (wpE (defs₀ (F := F)) 𝒱₀ (thr d L) none) Set.univ
          (k0_t1_body (F := F) L xG (Memref.isWhole_whole _) pG (Memref.isWhole_whole _) cG (Memref.isWhole_whole _) oG (Memref.isWhole_whole _)
            xM (Memref.isWhole_whole _) pM (Memref.isWhole_whole _) cM (Memref.isWhole_whole _) yM (Memref.isWhole_whole _)
            cc0_scoped0 cc0_scoped1 cc0_scoped2 cc0_scoped3 cc0_scoped4 cc0_scoped5 cc0_scoped6 v2 lanes k acc)
          (inv d L xb pb cb qp O W (k.val + 1)) := by
  unfold k0_t1_body
  rw [wp_bind, k0_part32_eq_skeleton]
  unfold k0_part32_skel
  unfold inv
  iintro ⟨Hmw, Hpg, Hx, Hc, ⟨%fp, Hp⟩, ⟨%fy, %hy, Hy⟩, Hsem, %W', %hW', HO⟩
  sl_exec
  rw [wp_bind]
  have ep : View.write (Elt F) pM.view fp (pass.sl.dma0 L pb k) Finset.univ = flat 49152 (Pn pb (wid L) k.val) :=
    (View.write_whole_univ _ _ _).trans (read_packed L pb k _)
  rw [ep]
  iapply (loop_runs (X := Xn xb) (CB := Cn cb (wid L)) (PK := Pn pb (wid L) k.val) (v18 := k0_pay460 lanes) (v22 := k0_pay461 lanes)
    (v29 := pass.sl.r k) (v36 := pass.sl.r_1 k) (pBase_le (rg := 0) (by decide)) (pBase_le (rg := 1) (by decide))
    (fun x => by rw [show pass.sl.r k = cBase k.val 0 from pay462_eq k]; exact cBase_le (lt_trips k) (by decide) x)
    (fun x => by rw [show pass.sl.r_1 k = cBase k.val 1 from pay463_eq k]; exact cBase_le (lt_trips k) (by decide) x) k _ _ _ _ _ _ _ _ _ _) $$ [Hx Hc Hp]
  · unfold Held
    isplitl [Hx]; · iexact Hx
    isplitl [Hp]; · iexact Hp
    iexact Hc
  iintro Hh
  sl_exec
  sl_step
  unfold Held
  icases Hh with ⟨Hx, Hp, Hc⟩
  isplitl [Hmw]; · iexact Hmw
  isplitl [Hpg]; · iexact Hpg
  isplitl [Hx]; · iexact Hx
  isplitl [Hc]; · iexact Hc
  isplitl [Hp]; · iexists _; iexact Hp
  isplitl [Hy]
  · iexists (yM.view.writes (Elt F) (fy : Buf (Elt F) (yM.view.loc (thr d L))) (pieces L xb pb cb k))
    isplitr
    · ipureintro; exact done_succ L xb pb cb fy k hy
    · rw [show pass.sl.r_3 L xb pb cb k = accOf (Xn xb) (Cn cb (wid L)) (Pn pb (wid L) k.val) (pBase 1) (pass.sl.r_1 k) 3 zeros 128 from rfl,
        show pass.sl.r_2 L xb pb cb k = accOf (Xn xb) (Cn cb (wid L)) (Pn pb (wid L) k.val) (pBase 1) (pass.sl.r_1 k) 2 zeros 128 from rfl,
        show pass.sl.r k = cBase k.val 0 from pay462_eq k, show pass.sl.r_1 k = cBase k.val 1 from pay463_eq k]
      iapply (Entails.of_eq (congrArg (fun g => (yM.view.loc (thr d L) ↦{fullShare} (g : Buf (Elt F) (yM.view.loc (thr d L))) : sProp (MM F)))
        (show _ = yM.view.writes (Elt F) (fy : Buf (Elt F) (yM.view.loc (thr d L))) (pieces L xb pb cb k) from rfl)))
      iexact Hy
  isplitl [Hsem]; · iexact Hsem
  iexists (insert (SemLoc.dma cc0_scoped2.sem, (default : HIx 1)) W'); isplitr
  · ipureintro; intro p hp
    rcases Finset.mem_insert.mp hp with hp | hp
    · exact .inr (hp ▸ rfl)
    · exact hW' p hp
  · iexact HO

end Tile

end Cert.Proof.Codebook

end
-- ==== Proof.Tile.lean ====
/-
  The task of one tile: what it takes (read shares of the three inputs, its four pieces of the result), what it
  brings back (the four pieces, at the values it computes).
-/
module

public import proofs.«01_k».proof.Proof.Body

@[expose] public section

set_option maxRecDepth 16384

noncomputable section

namespace Cert.Proof.Codebook

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

/-! ## The tile's own cells and buffers -/

section Own

variable (d : Dev nD) (L : grid0.Coords)

/-- The seven cells the task's copies complete on. -/
def sems : Fin 7 → DmaSem sig := ![cc0_scoped0.sem, cc0_scoped1.sem, cc0_scoped2.sem, cc0_scoped3.sem, cc0_scoped4.sem, cc0_scoped5.sem, cc0_scoped6.sem]

def cell (i : Fin 7) : GSem nD τ sig := (thr d L, SemLoc.dma (sems i))

theorem cell_injective : Function.Injective (cell d L) := fun i j h => by
  have h' : SemLoc.dma (sems i) = (SemLoc.dma (sems j) : SemLoc sig) := congrArg Prod.snd h
  clear h
  revert h'
  revert i j
  decide

theorem cell_mem (i : Fin 7) : cell d L i ∈ ownCells (thr d L) :=
  mem_ownCells.mpr ⟨rfl, by show (SemLoc.dma (sems i) : SemLoc sig).isScoped .scVector = true; revert i; decide⟩

/-- The cells the task does not use. -/
def restCells : Finset (GSem nD τ sig) := ownCells (thr d L) \ Finset.univ.map ⟨cell d L, cell_injective d L⟩

theorem ownSems0_eq :
    (ownSems0 (thr d L) : sProp (MM F)) = iprop((bigSep Finset.univ fun i : Fin 7 => semVal (cell d L i) 0) ∗ bigSep (restCells d L) fun g => semVal g 0) := by
  unfold SparseCore.Cfg.ownSems0 restCells
  have h : Finset.univ.map ⟨cell d L, cell_injective d L⟩ ⊆ ownCells (thr d L) := fun g hg => by
    obtain ⟨i, -, rfl⟩ := Finset.mem_map.mp hg
    exact cell_mem d L i
  conv_lhs => rw [← Finset.union_sdiff_of_subset h]
  rw [SparseCore.bigSep_union' Finset.disjoint_sdiff, bigSep_map]
  rfl

/-- The four scratch arrays. -/
def refs : Fin 4 → Ref sig .scVector := ![cc0_scratch0, cc0_scratch1, cc0_scratch2, cc0_scratch3]

def buf (i : Fin 4) : DevRef τ sig := (Proc.scVector (cV L) (jV L)).devRef (refs i)

theorem refs_injective : ∀ i j, refs i = refs j → i = j := by decide

theorem buf_injective : Function.Injective (buf L) := fun i j h => by
  exact refs_injective i j (Proc.devRef_injective _ h)

theorem buf_mem (i : Fin 4) : buf L i ∈ ownRefs (τ := τ) (sig := sig) (.scVector (cV L) (jV L)) :=
  SparseCore.Cfg.mem_ownRefs_of_owner (p := Proc.scVector (cV L) (jV L)) (by fin_cases i <;> rfl)

/-- The tile's buffers that the task does not use. -/
def restBufs : Finset (DevRef τ sig) := ownRefs (τ := τ) (.scVector (cV L) (jV L)) \ Finset.univ.map ⟨buf L, buf_injective L⟩

theorem ownBufs_eq :
    (ownBufs (thr d L) : sProp (MM F)) = iprop((bigSep Finset.univ fun i : Fin 4 => iprop(∃ f, ((d, buf L i) : Loc nD τ sig) ↦{fullShare} f))
      ∗ bigSep (restBufs L) fun b => iprop(∃ f, ((d, b) : Loc nD τ sig) ↦{fullShare} f)) := by
  unfold SparseCore.Cfg.ownBufs restBufs
  have h : Finset.univ.map ⟨buf L, buf_injective L⟩ ⊆ ownRefs (τ := τ) (sig := sig) (.scVector (cV L) (jV L)) := fun g hg => by
    obtain ⟨i, -, rfl⟩ := Finset.mem_map.mp hg
    exact buf_mem L i
  show bigSep (ownRefs (τ := τ) (.scVector (cV L) (jV L))) _ = _
  conv_lhs => rw [← Finset.union_sdiff_of_subset h]
  rw [SparseCore.bigSep_union' Finset.disjoint_sdiff, bigSep_map]
  rfl

theorem bigSep_fin7 (Φ : Fin 7 → sProp (MM F)) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem bigSep_fin4 (Φ : Fin 4 → sProp (MM F)) : bigSep Finset.univ Φ = iprop(Φ 0 ∗ Φ 1 ∗ Φ 2 ∗ Φ 3) :=
  bigSep_univ_eq_bigSepL [0, 1, 2, 3] (by decide) (by decide) Φ

/-- The tile's cells at zero: the copies' seven, and the rest. -/
theorem ownSems0_V :
    (ownSems0 (thr d L) : sProp (MM F)) = iprop((semVal (thr d L, SemLoc.dma cc0_scoped0.sem) 0 ∗ semVal (thr d L, SemLoc.dma cc0_scoped1.sem) 0
      ∗ semVal (thr d L, SemLoc.dma cc0_scoped2.sem) 0 ∗ semVal (thr d L, SemLoc.dma cc0_scoped3.sem) 0 ∗ semVal (thr d L, SemLoc.dma cc0_scoped4.sem) 0
      ∗ semVal (thr d L, SemLoc.dma cc0_scoped5.sem) 0 ∗ semVal (thr d L, SemLoc.dma cc0_scoped6.sem) 0) ∗ bigSep (restCells d L) fun g => semVal g 0) := by
  rw [ownSems0_eq, bigSep_fin7]
  rfl

/-- The tile's buffers at some contents: the four scratch arrays, and the rest. -/
theorem ownBufs_V :
    (ownBufs (thr d L) : sProp (MM F)) = iprop(((∃ f, xM.view.loc (thr d L) ↦{fullShare} f) ∗ (∃ f, pM.view.loc (thr d L) ↦{fullShare} f)
      ∗ (∃ f, cM.view.loc (thr d L) ↦{fullShare} f) ∗ (∃ f, yM.view.loc (thr d L) ↦{fullShare} f))
      ∗ bigSep (restBufs L) fun b => iprop(∃ f, ((d, b) : Loc nD τ sig) ↦{fullShare} f)) := by
  rw [ownBufs_eq, bigSep_fin4]
  rfl

end Own

variable [FloatOps F]

/-! ## The task -/

section Tile

variable (d : Dev nD) (L : grid0.Coords) (xb : S16384.Idx → F .f32) (pb : S6291456.Idx → BitVec 32) (cb : S1048576.Idx → F .f32)
  (qx qp qc : PosShare TreeShare)

/-- The piece of the result that holds the tile's rows for batch row `b`. -/
abbrev oSl (L : grid0.Coords) (b : Fin 4) : Memref sig .scVector .hbm S128 .f32 :=
  oG.slice (Rect.unit (s := S16384) (k0_off6 L (BitVec.ofNat 32 (4096 * b.val))) S128.size (k0_off6_inb L b)) (fun _ => rfl)

/-- What the task takes. -/
def goes (ob : S16384.Idx → F .f32) : sProp (MM F) :=
  iprop((xG.view.loc (thr d L) ↦{qx} (xb : Buf (Elt F) (xG.view.loc (thr d L))))
    ∗ (pG.view.loc (thr d L) ↦{qp} (pb : Buf (Elt F) (pG.view.loc (thr d L))))
    ∗ (cG.view.loc (thr d L) ↦{qc} (cb : Buf (Elt F) (cG.view.loc (thr d L))))
    ∗ bigSep Finset.univ fun b : Fin 4 => (oG.view.loc (thr d L) ↦[(oSl L b).view.set]{fullShare} (ob : Buf (Elt F) (oG.view.loc (thr d L)))))

/-- What it brings back. -/
def comes : sProp (MM F) :=
  bigSep Finset.univ fun b : Fin 4 => (oG.view.loc (thr d L) ↦[(oSl L b).view.set]{fullShare} (gAt xb pb cb : Buf (Elt F) (oG.view.loc (thr d L))))

/-- What a piece of the result holds after its copy: the tile's rows for batch row `b`. -/
theorem out_value (ob : S16384.Idx → F .f32) (f : S512.Idx → F .f32) (hf : Done L xb pb cb 4 f) (b : Fin 4)
    (inb : ∀ a, (![128 * b.val] : Fin S512.rank → ℕ) a + S128.size a ≤ S512.size a) (h) :
    ∀ i ∈ (oSl L b).view.set, (oSl L b).view.writes (Elt F) ob
      [⟨Rect.whole S128, (yM.slice (Rect.unit (s := S512) ![128 * b.val] S128.size inb) h).view.read (Elt F) f⟩] i = gAt xb pb cb i := by
  intro i hi
  obtain ⟨x, -, rfl⟩ := Finset.mem_map.mp hi
  have key := View.read_writes_cons_hit_of_coords (Val := Elt F) (oSl L b).view ob (Rect.whole S128)
    ((yM.slice (Rect.unit (s := S512) ![128 * b.val] S128.size inb) h).view.read (Elt F) f) [] x x fun a => by
      show (x a).val = 0 + 1 * (x a).val
      omega
  refine Eq.trans (b := (yM.slice (Rect.unit (s := S512) ![128 * b.val] S128.size inb) h).view.read (Elt F) f x) key ?_
  have hx : (x 0).val < 128 := (x 0).isLt
  have h0 : (L 0).val < 2 := (L 0).isLt
  have h1 : (L 1).val < 16 := (L 1).isLt
  have hb := b.isLt
  have e : (((oSl L b).view.emb x) 0).val = 4096 * b.val + 2048 * (L 0).val + 128 * (L 1).val + (x 0).val :=
    (congrArg (· + 1 * (x 0).val) (congrFun (k0_off6_eq L b) 0)).trans (by rw [Nat.one_mul]; rfl)
  refine (hf b.val (x 0).val ((yM.slice (Rect.unit (s := S512) ![128 * b.val] S128.size inb) h).view.emb x) ?_ hx (by omega)).trans ?_
  · show 128 * b.val + 1 * (x 0).val = _
    omega
  · unfold gAt
    rw [e, show (4096 * b.val + 2048 * (L 0).val + 128 * (L 1).val + (x 0).val) % 4096 / 128 = wid L by unfold wid; omega,
      show (4096 * b.val + 2048 * (L 0).val + 128 * (L 1).val + (x 0).val) / 4096 = b.val by omega,
      show (4096 * b.val + 2048 * (L 0).val + 128 * (L 1).val + (x 0).val) % 128 = (x 0).val by omega]

/-- The piece as the program spells its offset. -/
theorem pts_piece (b : Fin 4) (c : BitVec 32) (hc : c = BitVec.ofNat 32 (4096 * b.val)) (inb : ∀ a, (k0_off6 L c) a + S128.size a ≤ S16384.size a)
    (f : Buf (Elt F) (oG.view.loc (thr d L))) :
    ((oG.slice (Rect.unit (s := S16384) (k0_off6 L c) S128.size inb) (fun _ => rfl)).view.loc (thr d L)
        ↦[(oG.slice (Rect.unit (s := S16384) (k0_off6 L c) S128.size inb) (fun _ => rfl)).view.set]{fullShare} f : sProp (MM F))
      = (oG.view.loc (thr d L) ↦[(oSl L b).view.set]{fullShare} f) := by
  subst hc
  rfl

/-- A piece after its copy, as the program spells it. -/
theorem piece_done (ob : S16384.Idx → F .f32) (f : S512.Idx → F .f32) (hf : Done L xb pb cb 4 f) (b : Fin 4) (c : BitVec 32) (hc : c = BitVec.ofNat 32 (4096 * b.val))
    (inb : ∀ a, (k0_off6 L c) a + S128.size a ≤ S16384.size a)
    (inb' : ∀ a, (![128 * b.val] : Fin S512.rank → ℕ) a + S128.size a ≤ S512.size a) (pay : S128.Idx → F .f32)
    (hpay : pay = (yM.slice (Rect.unit (s := S512) ![128 * b.val] S128.size inb') (fun _ => rfl)).view.read (Elt F) f) :
    ((oG.slice (Rect.unit (s := S16384) (k0_off6 L c) S128.size inb) (fun _ => rfl)).view.loc (thr d L)
        ↦[(oG.slice (Rect.unit (s := S16384) (k0_off6 L c) S128.size inb) (fun _ => rfl)).view.set]{fullShare}
          (oG.slice (Rect.unit (s := S16384) (k0_off6 L c) S128.size inb) (fun _ => rfl)).view.writes (Elt F) ob
            [⟨Rect.whole (Rect.unit (s := S16384) (k0_off6 L c) S128.size inb).shape, pay⟩] : sProp (MM F))
      = (oG.view.loc (thr d L) ↦[(oSl L b).view.set]{fullShare} (gAt xb pb cb : Buf (Elt F) (oG.view.loc (thr d L)))) := by
  subst hc hpay
  exact pointsTo_congr (out_value L xb pb cb ob f hf b inb' _)

set_option maxHeartbeats 4000000 in
/-- The task on the tile of grid point `L` of device `d`: the activations and the tile's codebooks copied in, the four
    passes by their invariant, the four pieces of the result copied out. -/
theorem tile_body (hF : (K (F := F)).Facts) (ob : S16384.Idx → F .f32) (O : CellTallies nD τ sig (HIx 1)) (W : Waits sig (HIx 1)) (hO : ∀ g, O g none = 0) :
    iprop(levAts (K (F := F)).L (K (F := F)).lev ∗ emp ∗ goes d L xb pb cb qx qp qc ob
        ∗ scopedBufs (thr d L) ∗ scopedSems0 (thr d L) ∗ owes (thr d L) O W)
      ⊢ wp frame (wpE (defs₀ (F := F)) 𝒱₀ (thr d L) none) Set.univ
          (cc0__sc_body (F := F) L xG (Memref.isWhole_whole _) pG (Memref.isWhole_whole _) cG (Memref.isWhole_whole _) oG (Memref.isWhole_whole _)
            xM (Memref.isWhole_whole _) pM (Memref.isWhole_whole _) cM (Memref.isWhole_whole _) yM (Memref.isWhole_whole _)
            cc0_scoped0 cc0_scoped1 cc0_scoped2 cc0_scoped3 cc0_scoped4 cc0_scoped5 cc0_scoped6)
          fun _ => iprop(comes d L xb pb cb ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  rw [cc0__sc_body_eq_skeleton]
  unfold cc0__sc_body_skel
  unfold goes
  rw [bigSep_fin4]
  iintro ⟨#Hlv, -, ⟨Hx, Hp, Hc, Ho0, Ho1, Ho2, Ho3⟩, ⟨⟨⟨%f0, Hxm⟩, ⟨%f1, Hpm⟩, ⟨%f2, Hcm⟩, ⟨%f3, Hym⟩⟩, Hbufs⟩,
    ⟨⟨Hd0, Hd1, Hd2, Hd3, Hd4, Hd5, Hd6⟩, Hsems⟩, HO⟩
  ihave Hmw := (show levAts (K (F := F)).L (K (F := F)).lev ⊢ Transfers.MayWaits (thr d L) (none : HIx 1) O from
    (K (F := F)).mayWaits_none (thr := thr d L) hO) $$ Hlv
  sl_exec
  have ex : View.write (Elt F) xM.view f0 (tile_body.sl.dma0 xb) Finset.univ = flat 16384 (Xn xb) :=
    (View.write_whole_univ _ _ _).trans (flat_nth (n := 16384) (by decide) xb).symm
  have ec : View.write (Elt F) cM.view f2 (tile_body.sl.dma0_1 L cb) Finset.univ = flat 32768 (Cn cb (wid L)) :=
    (View.write_whole_univ _ _ _).trans (read_books L cb _)
  rw [ex, ec]
  sl_for (inv d L xb pb cb qp O (insert (SemLoc.dma cc0_scoped1.sem, (default : HIx 1)) (insert (SemLoc.dma cc0_scoped0.sem, (default : HIx 1)) W))) $$ [Hmw Hp Hxm Hcm Hpm Hym Hd2 HO]
  case region => exact fun k acc => pass d L xb pb cb qp O _ _ k acc
  · unfold inv
    isplitl [Hmw]; · iexact Hmw
    isplitl [Hp]; · iexact Hp
    isplitl [Hxm]; · iexact Hxm
    isplitl [Hcm]; · iexact Hcm
    isplitl [Hpm]; · iexists _; iexact Hpm
    isplitl [Hym]
    · iexists f3; isplitr
      · ipureintro; exact fun b r i _ _ h => absurd h (by omega)
      · iexact Hym
    isplitl [Hd2]; · iexact Hd2
    iexists _; isplitr
    swap; · iexact HO
    ipureintro; exact fun p hp => .inl hp
  iintro %acc HI
  unfold inv
  icases HI with ⟨-, Hp, Hxm, Hcm, ⟨%f1', Hpm⟩, ⟨%fy, %hy, Hym⟩, Hd2, %W', %hW', HO⟩
  ihave Hq0 := (Entails.of_eq (pts_piece (F := F) d L 0 0#32 rfl (k0_off6_inb L 0) ob).symm) $$ Ho0
  ihave Hq1 := (Entails.of_eq (pts_piece (F := F) d L 1 4096#32 rfl (k0_off6_inb L 1) ob).symm) $$ Ho1
  ihave Hq2 := (Entails.of_eq (pts_piece (F := F) d L 2 8192#32 rfl (k0_off6_inb L 2) ob).symm) $$ Ho2
  ihave Hq3 := (Entails.of_eq (pts_piece (F := F) d L 3 12288#32 rfl (k0_off6_inb L 3) ob).symm) $$ Ho3
  sl_exec
  sl_step
  have hf : Done L xb pb cb 4 fy := hy
  ihave Hr0 := (Entails.of_eq (piece_done (F := F) d L xb pb cb ob fy hf 0 0#32 rfl (k0_off6_inb L 0) inb_S512_S128_0 (tile_body.sl.dma0_2 fy) rfl)) $$ Hq0
  ihave Hr1 := (Entails.of_eq (piece_done (F := F) d L xb pb cb ob fy hf 1 4096#32 rfl (k0_off6_inb L 1) inb_S512_S128_128 (tile_body.sl.dma0_3 fy) rfl)) $$ Hq1
  ihave Hr2 := (Entails.of_eq (piece_done (F := F) d L xb pb cb ob fy hf 2 8192#32 rfl (k0_off6_inb L 2) inb_S512_S128_256 (tile_body.sl.dma0_4 fy) rfl)) $$ Hq2
  ihave Hr3 := (Entails.of_eq (piece_done (F := F) d L xb pb cb ob fy hf 3 12288#32 rfl (k0_off6_inb L 3) inb_S512_S128_384 (tile_body.sl.dma0_5 fy) rfl)) $$ Hq3
  isplitl [Hr0 Hr1 Hr2 Hr3]
  · unfold comes
    rw [bigSep_fin4]
    isplitl [Hr0]; · iexact Hr0
    isplitl [Hr1]; · iexact Hr1
    isplitl [Hr2]; · iexact Hr2
    iexact Hr3
  isplitl [Hxm Hpm Hcm Hym Hbufs]
  · isplitr [Hbufs]
    · isplitl [Hxm]; · iexists _; iexact Hxm
      isplitl [Hpm]; · iexists _; iexact Hpm
      isplitl [Hcm]; · iexists _; iexact Hcm
      iexists _; iexact Hym
    · iexact Hbufs
  isplitl [Hd0 Hd1 Hd2 Hd3 Hd4 Hd5 Hd6 Hsems]
  · isplitr [Hsems]
    · isplitl [Hd0]; · iexact Hd0
      isplitl [Hd1]; · iexact Hd1
      isplitl [Hd2]; · iexact Hd2
      isplitl [Hd3]; · iexact Hd3
      isplitl [Hd4]; · iexact Hd4
      isplitl [Hd5]; · iexact Hd5
      iexact Hd6
    · iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases hW' p hp with hp | hp
  · rcases Finset.mem_insert.mp hp with hp | hp; · exact .inr (hp ▸ rfl)
    rcases Finset.mem_insert.mp hp with hp | hp; · exact .inr (hp ▸ rfl)
    exact .inl hp
  · exact .inr hp

end Tile

end Cert.Proof.Codebook

end
-- ==== Proof.Launch.lean ====
/-
  The launch: @main flattens the activations and the codebooks, starts the thirty-two tiles with a read share of each
  input and the four pieces of the result that are theirs, and takes the result back whole, at the value the tiles
  computed.
-/
module

public import proofs.«01_k».proof.Proof.Tile

@[expose] public section

set_option maxRecDepth 16384

noncomputable section

namespace Cert.Proof.Codebook

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTok)
open Idealize.ShloMosaic.StableHlo (held held_split held_sdiff_result wp_hlo_within)

variable {F : FTy → Type}

/-! ## The grid -/

/-- Grid point `(c, s)`. -/
def coordsV (c : Fin (grid0.bound 0)) (s : Fin (grid0.bound 1)) : grid0.Coords :=
  fun | 0 => c | 1 => s | ⟨_ + 2, h⟩ => absurd h (Nat.not_lt.2 (Nat.le_add_left _ _))

/-- The read share of tile `(c, i)`. -/
abbrev sh (c : Fin 2) (i : Fin 16) : PosShare TreeShare := shareTok fullShare 32 (finProdFinEquiv (c, i))

/-! ## The arrays on the TensorCore, and what the run makes of them -/

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev v0Loc (d : Dev nD) : Loc nD τ sig := (SparseCore.T d).loc main_v0
abbrev v1Loc (d : Dev nD) : Loc nD τ sig := (SparseCore.T d).loc main_v1
abbrev v2Loc (d : Dev nD) : Loc nD τ sig := (SparseCore.T d).loc main_v2
abbrev v3Loc (d : Dev nD) : Loc nD τ sig := (SparseCore.T d).loc main_v3

/-- The activations, flattened. -/
def flatX (x : S4x4096.Idx → F .f32) : S16384.Idx → F .f32 := shapeCast S16384 x shapeCasts_S4x4096_S16384
/-- The codebooks, flattened. -/
def flatC (cb : S131072x8.Idx → F .f32) : S1048576.Idx → F .f32 := shapeCast S1048576 cb shapeCasts_S131072x8_S1048576

/-- The product the kernel returns, of the activations, the packed indices and the codebooks. -/
def outOf [FloatOps F] (x : S4x4096.Idx → F .f32) (p : S6291456.Idx → BitVec 32) (cb : S131072x8.Idx → F .f32) : S4x4096.Idx → F .f32 :=
  shapeCast S4x4096 (gAt (flatX x) p (flatC cb)) shapeCasts_S16384_S4x4096

/-! ## The pieces of the result, the shares of the inputs -/

/-- The cells of the result that tile `(c, i)` writes for batch row `b`. -/
abbrev pieceSet (t : Fin 2 × Fin 16 × Fin 4) : Finset S16384.Idx := (oSl (coordsV t.1 t.2.1) t.2.2).view.set

theorem mem_pieceSet (t : Fin 2 × Fin 16 × Fin 4) (e : S16384.Idx) :
    e ∈ pieceSet t ↔ 4096 * t.2.2.val + 2048 * t.1.val + 128 * t.2.1.val ≤ (e 0).val
      ∧ (e 0).val < 4096 * t.2.2.val + 2048 * t.1.val + 128 * t.2.1.val + 128 := by
  have hs : pieceSet t = (Rect.unit (s := S16384) (k0_off6 (coordsV t.1 t.2.1) (BitVec.ofNat 32 (4096 * t.2.2.val))) S128.size
      (k0_off6_inb (coordsV t.1 t.2.1) t.2.2)).set := by
    show ((View.whole (main_v2_scv : Ref sig .scVector)).slice _).set = _
    rw [View.set_slice]; exact Finset.map_refl
  rw [hs, Rect.mem_set_unit]
  have h0 : k0_off6 (coordsV t.1 t.2.1) (BitVec.ofNat 32 (4096 * t.2.2.val)) 0
      = 4096 * t.2.2.val + 2048 * t.1.val + 128 * t.2.1.val := congrFun (k0_off6_eq (coordsV t.1 t.2.1) t.2.2) 0
  constructor
  · intro h
    have := h 0
    rw [h0] at this
    exact this
  · intro h k
    match k with
    | 0 => rw [h0]; exact h

theorem pieces_disjoint : ∀ t ∈ (Finset.univ : Finset (Fin 2 × Fin 16 × Fin 4)), ∀ t' ∈ (Finset.univ : Finset (Fin 2 × Fin 16 × Fin 4)),
    t ≠ t' → Disjoint (pieceSet t) (pieceSet t') := by
  intro t _ t' _ h
  rw [Finset.disjoint_left]
  intro e he he'
  rw [mem_pieceSet] at he he'
  obtain ⟨c, i, b⟩ := t
  obtain ⟨c', i', b'⟩ := t'
  apply h
  dsimp only at he he'
  have := c.isLt; have := i.isLt; have := b.isLt; have := c'.isLt; have := i'.isLt; have := b'.isLt
  rw [show c = c' from Fin.ext (by omega), show i = i' from Fin.ext (by omega), show b = b' from Fin.ext (by omega)]

theorem pieces_cover : (Finset.univ : Finset (Fin 2 × Fin 16 × Fin 4)).biUnion pieceSet = Finset.univ := by
  ext e
  refine ⟨fun _ => Finset.mem_univ _, fun _ => ?_⟩
  have he : (e 0).val < 16384 := (e 0).isLt
  refine Finset.mem_biUnion.mpr ⟨(⟨(e 0).val % 4096 / 2048, by omega⟩, ⟨(e 0).val % 2048 / 128, by omega⟩, ⟨(e 0).val / 4096, by omega⟩),
    Finset.mem_univ _, (mem_pieceSet _ e).mpr ?_⟩
  dsimp only
  omega

/-- The result held whole is its pieces held one by one. -/
theorem out_pieces (d : Dev nD) (f : S16384.Idx → F .f32) :
    (v2Loc d ↦{fullShare} f : sProp (MM F))
      = bigSep Finset.univ fun c : Fin 2 => bigSep Finset.univ fun i : Fin 16 => bigSep Finset.univ fun b : Fin 4 =>
          (v2Loc d ↦[pieceSet (c, i, b)]{fullShare} f : sProp (MM F)) := by
  have h := pointsTo_biUnion (Lvl := ℕ) (Ix := HIx 1) (Name := ℕ) (U := UU) (Val := Elt F) (ℓ := v2Loc d) (q := fullShare) (f := f) Finset.univ pieceSet pieces_disjoint
  rw [pieces_cover] at h
  refine h.trans ((bigSep_univ_prod _).trans (bigSep_congr fun c _ => bigSep_univ_prod _))

/-- An input held whole gives every tile a read share, and keeps one. -/
theorem shares (ℓ : Loc nD τ sig) (f : Buf (Elt F) ℓ) :
    (ℓ ↦{fullShare} f : sProp (MM F)) ⊢ iprop((ℓ ↦{shareDrop fullShare 32} f)
      ∗ bigSep Finset.univ fun c : Fin 2 => bigSep Finset.univ fun i : Fin 16 => (ℓ ↦{sh c i} f : sProp (MM F))) := by
  refine (Transfers.pointsTo_toks_split fullShare 32).trans (Entails.of_eq ?_)
  rw [bigSep_univ_equiv (finProdFinEquiv (m := 2) (n := 16)), bigSep_univ_prod]

variable [FloatOps F]
variable (m : (ℓ : Loc nD τ sig) → Buf (Elt F) ℓ) (ρ : Dev nD → PrngReg)

/-- What tile `(c, i)` is handed: its shares of the flattened activations, the packed indices and the flattened
    codebooks, and its pieces of the result as the launch left them. -/
abbrev goOf (d : Dev nD) (c : Fin 2) (i : Fin 16) : sProp (MM F) :=
  goes d (coordsV c i) (flatX (m (a0Loc d))) (m (a1Loc d)) (flatC (m (a2Loc d))) (sh c i) (sh c i) (sh c i) (m (v2Loc d))

/-- What it hands back: its pieces, computed. -/
abbrev tdOf (d : Dev nD) (c : Fin 2) (i : Fin 16) : sProp (MM F) :=
  comes d (coordsV c i) (flatX (m (a0Loc d))) (m (a1Loc d)) (flatC (m (a2Loc d)))

instance goOf_storable (d : Dev nD) (c : Fin 2) (i : Fin 16) : BI.Storable (upEmb : UEmb _ (MM F)) (goOf m d c i) := by
  unfold goOf goes; infer_instance
instance tdOf_storable (d : Dev nD) (c : Fin 2) (i : Fin 16) : BI.Storable (upEmb : UEmb _ (MM F)) (tdOf m d c i) := by
  unfold tdOf comes; infer_instance

/-- The payloads of the call's handshakes. -/
def P : (K (F := F)).Pay (nD := nD) (Val := Elt F) (Name := ℕ) (U := UU) where
  st := fun q d c => match q with | 0 => bigSep Finset.univ fun i : Fin 16 => goOf m d c i
  dn := fun q d c => match q with | 0 => bigSep Finset.univ fun i : Fin 16 => tdOf m d c i
  go := fun q d c i => match q with | 0 => goOf m d c i
  td := fun q d c i => match q with | 0 => tdOf m d c i
  x := fun _ _ => iprop(emp)

instance P_storable : (P (F := F) m).IsStorable where
  st q d c := match q with
    | 0 => (inferInstance : BI.Storable (upEmb : UEmb _ (MM F)) (bigSep Finset.univ fun i : Fin 16 => goOf m d c i))
  dn q d c := match q with
    | 0 => (inferInstance : BI.Storable (upEmb : UEmb _ (MM F)) (bigSep Finset.univ fun i : Fin 16 => tdOf m d c i))
  go q d c i := match q with
    | 0 => (inferInstance : BI.Storable (upEmb : UEmb _ (MM F)) (goOf m d c i))
  td q d c i := match q with
    | 0 => (inferInstance : BI.Storable (upEmb : UEmb _ (MM F)) (tdOf m d c i))

/-! ## The call's obligations -/

theorem defs₀_vector (c : Fin τ.nSC) (s : Fin τ.nSub) :
    defs₀ (F := F) (.scVector c s) 0 ()
      = SparseCore.onTile hcore0 hsub0 (fun c s => cc0__sc_body (coordsV c s)
          xG (Memref.isWhole_whole _) pG (Memref.isWhole_whole _) cG (Memref.isWhole_whole _) oG (Memref.isWhole_whole _)
          xM (Memref.isWhole_whole _) pM (Memref.isWhole_whole _) cM (Memref.isWhole_whole _) yM (Memref.isWhole_whole _)
          cc0_scoped0 cc0_scoped1 cc0_scoped2 cc0_scoped3 cc0_scoped4 cc0_scoped5 cc0_scoped6) ⟨⟩ c s := rfl

omit [FloatOps F] in
/-- A task that recorded only waits of its own meets the call's condition on them. -/
theorem obl_post {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile meets its obligation (`tile_body`). -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (flatX (m (a0Loc d))) (m (a1Loc d)) (flatC (m (a2Loc d))) (sh c i) (sh c i) (sh c i) hF
    (m (v2Loc d)) O W hO).trans (wp_mono frame _ _ fun _ => obl_post)

/-- A SparseCore's start carries its tiles' operands as they are, its end their results. -/
theorem vecSplit : (K (F := F)).VecSplit' (P m) 0 := by
  intro d c
  show (bigSep Finset.univ fun i : Fin 16 => goOf m d c i) ⊢ |={Set.univ}=> iprop(
      (bigSep Finset.univ fun i : Fin 16 => goOf m d c i)
      ∗ ((bigSep Finset.univ fun i : Fin 16 => tdOf m d c i) -∗ bigSep Finset.univ fun i : Fin 16 => tdOf m d c i))
  iintro H; imodintro
  isplitl [H]; · iexact H
  iintro H; iexact H

/-! ## The launch element of the ghost state -/

def u₀ : UU := (initOf (K (F := F)).hsCells (K (F := F)).hsToks, 1)

omit [FloatOps F] in
/-- A separating conjunction of nothing is nothing. -/
theorem bigSep_emp' {I : Type} (s : Finset I) : (bigSep s fun _ => iprop(emp)) = (iprop(emp) : sProp (MM F)) := bigSep_emp_const s

theorem hu₀ : (ownU (u₀ (F := F)) : sProp (MM F))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

omit [FloatOps F] in
/-- The arrays @main is dealt, one by one. -/
theorem unscopedBufs_eq (d : Dev nD) (W : (b : Ref sig .tc) → Buf (Elt F) ((d.tc : Thread nD τ).loc b)) :
    (unscopedBufs d W : sProp (MM F)) = iprop((a0Loc d ↦{fullShare} W main_arg0) ∗ (a1Loc d ↦{fullShare} W main_arg1) ∗ (a2Loc d ↦{fullShare} W main_arg2)
      ∗ (v0Loc d ↦{fullShare} W main_v0) ∗ (v1Loc d ↦{fullShare} W main_v1) ∗ (v2Loc d ↦{fullShare} W main_v2) ∗ v3Loc d ↦{fullShare} W main_v3) := by
  unfold unscopedBufs
  rw [show (Finset.univ.filter fun b : Ref sig .tc => ¬ b.isScoped) = {main_arg0, main_arg1, main_arg2, main_v0, main_v1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

abbrev dv (r : Ref sig .tc) : DevRef τ sig := Proc.devRef .tc r

omit [FloatOps F] in
/-- Two arrays of the TensorCore held as the set of the two. -/
theorem held_pair (d : Dev nD) {x y : Ref sig .tc} (hxy : x ≠ y) (W : Valuation τ sig (Elt F)) :
    (held (T d) {dv x, dv y} W : sProp (MM F))
      = iprop(((SparseCore.T d).loc x ↦{fullShare} W (dv x)) ∗ (SparseCore.T d).loc y ↦{fullShare} W (dv y)) := by
  unfold StableHlo.held
  rw [SparseCore.bigSep_insert' (by rw [Finset.mem_singleton]; exact StableHlo.devRef_ne_of_ne hxy), bigSep_singleton]

/-- A reshape of `x` into `y` on the TensorCore: from both arrays held, both held again, `y` at `x`'s contents in row-major order. -/
theorem wp_reshape (d : Dev nD) {x y : Ref sig .tc} (he : x.ty.elt = y.ty.elt) (hn : x.ty.shape.ShapeCasts y.ty.shape)
    (hx : x.space ≠ .host ∧ (dv x).isScoped = false) (hy : y.space ≠ .host ∧ (dv y).isScoped = false)
    (hp : (SparseCore.T d : Thread nD τ).2.kind.runsHlo = true)
    (k : ((b : (StableHlo.reshape x y he hn hx hy : HloOp τ sig (Elt F)).writes) → b.1.ty.Contents (Elt F)) → Prog (TpuEff nD τ sig (Elt F) (SparseCore.Sig (ΛP (F := F)) 1) (SparseCore.T d : Thread nD τ).2) PUnit)
    (hxy : x ≠ y) (W : Valuation τ sig (Elt F)) (f : x.ty.Contents (Elt F)) (g r : y.ty.Contents (Elt F))
    (hf : W (dv x) = f) (hg : W (dv y) = g) (hr : (fun i => he ▸ shapeCast y.ty.shape f hn i) = r) (Q : PUnit → sProp (MM F)) :
    iprop(boundary (SparseCore.T d) ∗ ((SparseCore.T d).loc x ↦{fullShare} f) ∗ ((SparseCore.T d).loc y ↦{fullShare} g))
      ⊢ iprop(((boundary (SparseCore.T d) ∗ ((SparseCore.T d).loc x ↦{fullShare} f) ∗ ((SparseCore.T d).loc y ↦{fullShare} r))
          -∗ wp frame (wpE ((K (F := F)).defs (D (F := F))) 𝒱 (SparseCore.T d) none) Set.univ
              (k ((StableHlo.reshape x y he hn hx hy : HloOp τ sig (Elt F)).fn fun b => W b.1)) Q)
        -∗ wp frame (wpE ((K (F := F)).defs (D (F := F))) 𝒱 (SparseCore.T d) none) Set.univ
            (hlo hp (StableHlo.reshape x y he hn hx hy : HloOp τ sig (Elt F)) k) Q) := by
  have h := wp_hlo_within (Q := Q) (hp := hp) (k := k) 𝒱 (SparseCore.T d) none Set.univ (defs := (K (F := F)).defs (D (F := F)))
    (op := (StableHlo.reshape x y he hn hx hy : HloOp τ sig (Elt F))) (S := {dv x, dv y}) (Finset.Subset.refl _) (V := W)
  rw [held_pair d hxy, held_pair d hxy, StableHlo.reshape_result_ne x y he hn hx hy W hxy, StableHlo.reshape_result x y he hn hx hy W,
    hf, hg, hr] at h
  exact h

/-- What @main leaves the claims: the arguments at their launch contents, the result at the product. -/
abbrev FIN (d : Dev nD) : sProp (MM F) :=
  iprop((a0Loc d ↦{fullShare} m (a0Loc d)) ∗ (a1Loc d ↦{shareDrop fullShare 32} m (a1Loc d)) ∗ (a2Loc d ↦{fullShare} m (a2Loc d))
    ∗ v3Loc d ↦{fullShare} outOf (m (a0Loc d)) (m (a1Loc d)) (m (a2Loc d)))

/-- All the tiles' operands, from the inputs' shares and the result whole. -/
theorem st0_eq (d : Dev nD) : (bigSep Finset.univ fun c : Fin ((K (F := F)).nCore 0) => (P m).st 0 d c)
    = iprop((bigSep Finset.univ fun c : Fin 2 => bigSep Finset.univ fun i : Fin 16 => (v0Loc d ↦{sh c i} flatX (m (a0Loc d)) : sProp (MM F)))
      ∗ (bigSep Finset.univ fun c : Fin 2 => bigSep Finset.univ fun i : Fin 16 => (a1Loc d ↦{sh c i} m (a1Loc d) : sProp (MM F)))
      ∗ (bigSep Finset.univ fun c : Fin 2 => bigSep Finset.univ fun i : Fin 16 => (v1Loc d ↦{sh c i} flatC (m (a2Loc d)) : sProp (MM F)))
      ∗ (v2Loc d ↦{fullShare} m (v2Loc d))) := by
  rw [out_pieces]
  show (bigSep Finset.univ fun c : Fin 2 => bigSep Finset.univ fun i : Fin 16 => goOf m d c i) = _
  simp only [← bigSep_sep']
  rfl

/-- All the tiles' results: the result whole, computed. -/
theorem dn0_eq (d : Dev nD) : (bigSep Finset.univ fun c : Fin ((K (F := F)).nCore 0) => (P m).dn 0 d c)
    = (v2Loc d ↦{fullShare} gAt (flatX (m (a0Loc d))) (m (a1Loc d)) (flatC (m (a2Loc d)))) := by
  rw [out_pieces]; rfl

/-- The launch contents of every array of the device, and those with the flattened result written. -/
def V0 (d : Dev nD) : Valuation τ sig (Elt F) := fun b => m (d, b)
def V1 (d : Dev nD) : Valuation τ sig (Elt F) :=
  Function.update (V0 m d) (dv main_v2) (gAt (flatX (m (a0Loc d))) (m (a1Loc d)) (flatC (m (a2Loc d))))
theorem V1_v2 (d : Dev nD) : V1 m d (dv main_v2) = gAt (flatX (m (a0Loc d))) (m (a1Loc d)) (flatC (m (a2Loc d))) := Function.update_self _ _ _
theorem V1_v3 (d : Dev nD) : V1 m d (dv main_v3) = m (v3Loc d) :=
  Function.update_of_ne (show dv main_v3 ≠ dv main_v2 by decide) _ _

/-- @main on device `d`'s TensorCore. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨H0, H1, H2, Hv0, Hv1, Hv2, Hv3⟩, Hts, -⟩, -⟩
  iapply (wp_reshape d (x := main_arg0) (y := main_v0) _ _ _ _ _ _ (by decide) (V0 m d) (m (a0Loc d)) (m (v0Loc d)) (flatX (m (a0Loc d))) rfl rfl rfl) $$ [Hb H0 Hv0]
  · isplitl [Hb]; · iexact Hb
    isplitl [H0] <;> iassumption
  iintro ⟨Hb, H0, Hv0⟩
  rw [wp_ret]; imodintro
  iapply (wp_reshape d (x := main_arg2) (y := main_v1) _ _ _ _ _ _ (by decide) (V0 m d) (m (a2Loc d)) (m (v1Loc d)) (flatC (m (a2Loc d))) rfl rfl rfl) $$ [Hb H2 Hv1]
  · isplitl [Hb]; · iexact Hb
    isplitl [H2] <;> iassumption
  iintro ⟨Hb, H2, Hv1⟩
  rw [wp_ret]; imodintro
  -- the call
  ihave Hx := (shares (v0Loc d) (flatX (m (a0Loc d)))) $$ Hv0
  ihave Hp := (shares (a1Loc d) (m (a1Loc d))) $$ H1
  ihave Hc := (shares (v1Loc d) (flatC (m (a2Loc d)))) $$ Hv1
  icases Hx with ⟨-, Hx⟩
  icases Hp with ⟨H1, Hp⟩
  icases Hc with ⟨-, Hc⟩
  iapply ((K (F := F)).wp_run (D (F := F)) 𝒱 (EH := EH) (P := P m) κ d 0) $$ [Hst Hx Hp Hc Hv2 Hb Hts H0 H1 H2 Hv3]
  isplitr; · iexact Hctx
  isplitl [Hst]; · iexact Hst
  isplitl [Hx Hp Hc Hv2]
  · rw [st0_eq]
    isplitl [Hx]; · iexact Hx
    isplitl [Hp]; · iexact Hp
    isplitl [Hc]; · iexact Hc
    iexact Hv2
  iintro ⟨Hst, Hdn⟩
  ihave Hv2 := (Entails.of_eq (dn0_eq m d)) $$ Hdn
  iapply (wp_reshape d (x := main_v2) (y := main_v3) _ _ _ _ _ _ (by decide) (V1 m d) _ (m (v3Loc d)) (outOf (m (a0Loc d)) (m (a1Loc d)) (m (a2Loc d))) (V1_v2 m d) (V1_v3 m d) rfl) $$ [Hb Hv2 Hv3]
  · isplitl [Hb]; · iexact Hb
    isplitl [Hv2] <;> iassumption
  iintro ⟨Hb, -, Hv3⟩
  rw [wp_ret]; imodintro; imodintro
  isplitl [Hst]; · iexact Hst
  isplitr [Hb Hts]
  · isplitl [H0]; · iexact H0
    isplitl [H1]; · iexact H1
    isplitl [H2]; · iexact H2
    iexact Hv3
  isplitl [Hb] <;> iassumption

/-- What the claims read of a device's final state. -/
def fq (d : Dev nD) (s' : Phys nD τ sig (Elt F)) : Prop :=
  s'.mem.mem (v3Loc d) = outOf (m (a0Loc d)) (m (a1Loc d)) (m (a2Loc d))
    ∧ s'.mem.mem (a0Loc d) = m (a0Loc d) ∧ s'.mem.mem (a1Loc d) = m (a1Loc d) ∧ s'.mem.mem (a2Loc d) = m (a2Loc d)

theorem hfin (d : Dev nD) (s' : Phys nD τ sig (Elt F)) : iprop(FIN m d ∗ SI s') ⊢ (⌜fq m d s'⌝ : sProp (MM F)) := by
  iintro ⟨⟨H0, H1, H2, H3⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := shareDrop fullShare 32) (f := m (a1Loc d)))) $$ [HSI H1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI H2]
  · isplitl [HSI] <;> iassumption
  icases H with ⟨%h2, HSI, -⟩
  ihave H := (SI_pointsTo_agree (st := s') (ℓ := v3Loc d) (I := Finset.univ) (q := fullShare) (f := outOf (m (a0Loc d)) (m (a1Loc d)) (m (a2Loc d)))) $$ [HSI H3]
  · isplitl [HSI] <;> iassumption
  icases H with %h3
  ipureintro
  exact ⟨funext fun i => h3 i (Finset.mem_univ i), funext fun i => h0 i (Finset.mem_univ i), funext fun i => h1 i (Finset.mem_univ i),
    funext fun i => h2 i (Finset.mem_univ i)⟩

/-! ## The program's run -/

/-- The run's post: on every device the result at the product and the arguments unchanged; every counter back at zero. -/
def QC : PUnit × MemSt nD τ sig (Elt F) → Prop := fun r =>
  (∀ d : Dev nD, r.2.mem (v3Loc d) = outOf (m (a0Loc d)) (m (a1Loc d)) (m (a2Loc d))
    ∧ r.2.mem (a0Loc d) = m (a0Loc d) ∧ r.2.mem (a1Loc d) = m (a1Loc d) ∧ r.2.mem (a2Loc d) = m (a2Loc d)) ∧ r.2.sem = fun _ => 0

/-- Every execution of the program, at any float values, from any launch memory ends, with `QC`. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Codebook

end
-- ==== Proof.Sum.lean ====
/-
  The kernel's values at exact arithmetic: each result element is the plain sum over the contraction's columns of the
  activation times the codebook value that the packed bits select.
-/
module

public import proofs.«01_k».proof.Proof.Launch
public import Idealize.ShloMosaic.PureOps.Ideal.Laws

@[expose] public section

set_option maxRecDepth 16384

noncomputable section

namespace Cert.Proof.Codebook

open Cert.KernelIdeal Cert.KernelIdeal.Gen
open Idealize.ShloMosaic

/-! ## The product, by position -/

/-- The twenty-four packed bits of group `G`: three consecutive words, eight bits of each, the first lowest. -/
def grp (p : ℕ → BitVec 32) (G : ℕ) : BitVec 32 :=
  IntOp.ori (IntOp.ori (p (3 * G)) (IntOp.shli .vector (p (3 * G + 1)) 8#32)) (IntOp.shli .vector (p (3 * G + 2)) 16#32)

/-- Selector `j` of group `G`: three bits, from bit `3 j` on. -/
def code (p : ℕ → BitVec 32) (G j : ℕ) : BitVec 32 :=
  IntOp.andi (IntOp.shrsi .vector (grp p G) (BitVec.ofNat 32 (3 * j))) 7#32

/-- The weight of output `n` at column `k`: of the eight codebook values of its group of 128, the selected one. -/
def wAt (c : ℕ → Ideal .f32) (p : ℕ → BitVec 32) (n k : ℕ) : Ideal .f32 :=
  c (8 * ((4096 * n + k) / 128) + (code p ((4096 * n + k) / 8) (k % 8)).toNat)

/-- Output `n` of batch row `b`: the sum over the columns of activation times weight. -/
def outAt (x c : ℕ → Ideal .f32) (p : ℕ → BitVec 32) (b n : ℕ) : Ideal .f32 :=
  ∑ k ∈ Finset.range 4096, x (4096 * b + k) * wAt c p n k

theorem code_le (p : ℕ → BitVec 32) (G j : ℕ) : (code p G j).toNat ≤ 7 := toNat_and7 _

/-! ## The tile's words, by position -/

section Words

variable (pb : S6291456.Idx → BitVec 32) (cb : S1048576.Idx → Ideal .f32)

/-- The packed words by position. -/
abbrev pN : ℕ → BitVec 32 := nth (n := 6291456) (by decide) pb
/-- The codebooks by position. -/
abbrev cN : ℕ → Ideal .f32 := nth (n := 1048576) (by decide) cb

/-- Lane `x` of a tile's row group holds output `128 w + 32 p + 16 rg + x`: its packed bits are that output's. -/
theorem bitsOf_eq {w p rg t gg : ℕ} (hrg : rg < 2) (ht : t < 128) (hgg : gg < 4) (x : S16.Idx) :
    bitsOf (Pn pb w p) (pBase rg) (BitVec.ofNat 32 t) gg x
      = grp (pN pb) (512 * (128 * w + 32 * p + 16 * rg + (x 0).val) + 4 * t + gg) := by
  have hx : (x 0).val < 16 := (x 0).isLt
  have hb := toNat_pBase hrg x
  have h1 : (BitVec.ofNat 32 t * 12#32).toNat = t * 12 := by
    rw [BitVec.toNat_mul, BitVec.toNat_ofNat, Nat.mod_eq_of_lt (show t < 2 ^ 32 by omega)]
    exact Nat.mod_eq_of_lt (show t * 12 < 2 ^ 32 by omega)
  have h2 : (BitVec.ofNat 32 (3 * gg)).toNat = 3 * gg := by
    rw [BitVec.toNat_ofNat]; exact Nat.mod_eq_of_lt (by omega)
  have h3 : (BitVec.ofNat 32 t * 12#32 + BitVec.ofNat 32 (3 * gg)).toNat = t * 12 + 3 * gg := by
    rw [BitVec.toNat_add, h1, h2]; exact Nat.mod_eq_of_lt (by omega)
  have h0 : (pBase rg x + (BitVec.ofNat 32 t * 12#32 + BitVec.ofNat 32 (3 * gg))).toNat
      = 1536 * (x 0).val + 24576 * rg + (t * 12 + 3 * gg) := by
    rw [BitVec.toNat_add, h3, hb]; exact Nat.mod_eq_of_lt (by omega)
  have hj : ∀ j : ℕ, j ≤ 2 → (pBase rg x + (BitVec.ofNat 32 t * 12#32 + BitVec.ofNat 32 (3 * gg)) + BitVec.ofNat 32 j).toNat
      = 1536 * (x 0).val + 24576 * rg + (t * 12 + 3 * gg) + j := by
    intro j hj
    rw [BitVec.toNat_add, h0, BitVec.toNat_ofNat, Nat.mod_eq_of_lt (show j < 2 ^ 32 by omega)]
    exact Nat.mod_eq_of_lt (by omega)
  have e0 : 196608 * w + 49152 * p + (pBase rg x + (BitVec.ofNat 32 t * 12#32 + BitVec.ofNat 32 (3 * gg))).toNat
      = 3 * (512 * (128 * w + 32 * p + 16 * rg + (x 0).val) + 4 * t + gg) := by rw [h0]; omega
  have e1 : 196608 * w + 49152 * p + (pBase rg x + (BitVec.ofNat 32 t * 12#32 + BitVec.ofNat 32 (3 * gg)) + 1#32).toNat
      = 3 * (512 * (128 * w + 32 * p + 16 * rg + (x 0).val) + 4 * t + gg) + 1 := by rw [hj 1 (by omega)]; omega
  have e2 : 196608 * w + 49152 * p + (pBase rg x + (BitVec.ofNat 32 t * 12#32 + BitVec.ofNat 32 (3 * gg)) + 2#32).toNat
      = 3 * (512 * (128 * w + 32 * p + 16 * rg + (x 0).val) + 4 * t + gg) + 2 := by rw [hj 2 (by omega)]; omega
  unfold grp
  rw [← e2, ← e1, ← e0]
  rfl

/-- The value a lane gathers for column `kk` of trip `t` is its output's weight at column `32 t + kk`. -/
theorem valOf_eq {w p rg t kk : ℕ} (hp : p < 4) (hrg : rg < 2) (ht : t < 128) (hk : kk < 32) (x : S16.Idx) :
    valOf (Cn cb w) (Pn pb w p) (pBase rg) (cBase p rg) (BitVec.ofNat 32 t) kk x
      = wAt (cN cb) (pN pb) (128 * w + 32 * p + 16 * rg + (x 0).val) (32 * t + kk) := by
  have hx : (x 0).val < 16 := (x 0).isLt
  have hb := bitsOf_eq pb (w := w) (p := p) hrg ht (show kk / 8 < 4 by omega) x
  have hc := toNat_cBase hp hrg x
  have hr := toNat_rowBase (v := cBase p rg) (x := x) (by rw [hc]; omega) ht
  have g1 : (4096 * (128 * w + 32 * p + 16 * rg + (x 0).val) + (32 * t + kk)) / 8
      = 512 * (128 * w + 32 * p + 16 * rg + (x 0).val) + 4 * t + kk / 8 := by omega
  have g2 : (32 * t + kk) % 8 = kk % 8 := by omega
  have g3 : (4096 * (128 * w + 32 * p + 16 * rg + (x 0).val) + (32 * t + kk)) / 128
      = 32 * (128 * w + 32 * p + 16 * rg + (x 0).val) + t / 4 := by omega
  unfold wAt
  rw [g1, g2, g3]
  have hle := code_le (pN pb) (512 * (128 * w + 32 * p + 16 * rg + (x 0).val) + 4 * t + kk / 8) (kk % 8)
  have hs : (rowBase (cBase p rg) (BitVec.ofNat 32 t) x
        + code (pN pb) (512 * (128 * w + 32 * p + 16 * rg + (x 0).val) + 4 * t + kk / 8) (kk % 8)).toNat
      = 256 * ((x 0).val + 32 * p + 16 * rg) + 8 * (t / 4)
        + (code (pN pb) (512 * (128 * w + 32 * p + 16 * rg + (x 0).val) + 4 * t + kk / 8) (kk % 8)).toNat := by
    rw [BitVec.toNat_add, hr, hc]; exact Nat.mod_eq_of_lt (by omega)
  have hv : valOf (Cn cb w) (Pn pb w p) (pBase rg) (cBase p rg) (BitVec.ofNat 32 t) kk x
      = cN cb (32768 * w + (rowBase (cBase p rg) (BitVec.ofNat 32 t) x
        + code (pN pb) (512 * (128 * w + 32 * p + 16 * rg + (x 0).val) + 4 * t + kk / 8) (kk % 8)).toNat) := by
    unfold code
    rw [← hb]
    rfl
  rw [hv, hs]
  congr 1
  omega

/-! ## The accumulators -/

variable (xb : S16384.Idx → Ideal .f32)

/-- The activations by position. -/
abbrev xN : ℕ → Ideal .f32 := nth (n := 16384) (by decide) xb

theorem stepOf_eq {w p rg t : ℕ} (hp : p < 4) (hrg : rg < 2) (ht : t < 128) (b : ℕ) (acc : FVec Ideal S16 .f32) (x : S16.Idx) :
    ∀ kk ≤ 32, stepOf (Xn xb) (Cn cb w) (Pn pb w p) (pBase rg) (cBase p rg) b t (BitVec.ofNat 32 t) acc kk x
      = acc x + ∑ i ∈ Finset.range kk, xN xb (4096 * b + (32 * t + i))
          * wAt (cN cb) (pN pb) (128 * w + 32 * p + 16 * rg + (x 0).val) (32 * t + i)
  | 0, _ => by rw [Finset.range_zero, Finset.sum_empty, add_zero]; rfl
  | kk + 1, h => by
    have ih := stepOf_eq (w := w) hp hrg ht b acc x kk (by omega)
    rw [Finset.sum_range_succ, ← add_assoc, ← ih, ← valOf_eq pb cb hp hrg ht (show kk < 32 by omega) x, mul_comm]
    have e : 4096 * b + (32 * t + kk) = 4096 * b + 32 * t + 16 * (kk / 16) + kk % 16 := by omega
    rw [e]
    rfl

theorem accOf_eq {w p rg : ℕ} (hp : p < 4) (hrg : rg < 2) (b : ℕ) (x : S16.Idx) :
    ∀ t ≤ 128, accOf (Xn xb) (Cn cb w) (Pn pb w p) (pBase rg) (cBase p rg) b zeros t x
      = ∑ k ∈ Finset.range (32 * t), xN xb (4096 * b + k)
          * wAt (cN cb) (pN pb) (128 * w + 32 * p + 16 * rg + (x 0).val) k
  | 0, _ => by
    rw [Nat.mul_zero, Finset.range_zero, Finset.sum_empty]
    exact Ideal.ofBits_zero_f32
  | t + 1, h => by
    have ih := accOf_eq (w := w) hp hrg b x t (by omega)
    have hs := stepOf_eq pb cb xb (w := w) hp hrg (show t < 128 by omega) b
      (accOf (Xn xb) (Cn cb w) (Pn pb w p) (pBase rg) (cBase p rg) b zeros t) x 32 le_rfl
    rw [Nat.mul_succ, Finset.sum_range_add, ← ih]
    exact hs

/-- Each element of the kernel's flat result is its output's product. -/
theorem gAt_eq (i : S16384.Idx) :
    gAt xb pb cb i = outAt (xN xb) (cN cb) (pN pb) ((i 0).val / 4096) ((i 0).val % 4096) := by
  have h := accOf_eq pb cb xb (w := (i 0).val % 4096 / 128) (p := (i 0).val % 128 / 32) (rg := (i 0).val % 128 / 16 % 2)
    (by omega) (by omega) ((i 0).val / 4096)
    (fun a => ⟨(i 0).val % 128 % 16, by obtain rfl : a = 0 := Subsingleton.elim _ _; exact Nat.mod_lt _ (by decide)⟩) 128 le_rfl
  have e : 128 * ((i 0).val % 4096 / 128) + 32 * ((i 0).val % 128 / 32) + 16 * ((i 0).val % 128 / 16 % 2)
      + (i 0).val % 128 % 16 = (i 0).val % 4096 := by omega
  unfold outAt
  rw [← e]
  exact h

end Words

end Cert.Proof.Codebook

end
-- ==== Proof.Ref.lean ====
/-
  The reference's values at exact arithmetic: unpacking the words, selecting from the codebooks and multiplying give each
  output as the sum over the columns of activation times selected codebook value.
-/
module

public import proofs.«01_k».proof.Proof.Sum
public import proofs.«01_k».proof.Proof.Gen.ReferenceIdeal.Run
public import Idealize.ShloMosaic.Lib.Pipeline.Value
public import Idealize.ShloMosaic.Lib.ValueIdxCore
public import Idealize.ShloMosaic.Lib.StackMember

@[expose] public section

set_option maxRecDepth 16384

noncomputable section

namespace Cert.Proof.Codebook

open Cert.ReferenceIdeal Cert.ReferenceIdeal.Gen
open Idealize.ShloMosaic Idealize.ShloMosaic.ValueIdx

/-! ## The two operations the library does not read at these dimension numbers -/

/-- An all-ones mask folded by `and` from one is one. -/
theorem reduce_andi_one {s t u : Shape} {axes : List (Fin s.rank)} (x : IVec s 1) (init : IVec u 1) (h : s.ReducesTo axes t)
    (hu : 0 < u.numel) (j : t.Idx) (hx : ∀ i, x i = 1#1) (hi : ∀ i, init i = 1#1) : Host.reduce IntOp.andi x init h hu j = 1#1 := by
  rw [Host.reduce_eq_foldl, hi]
  generalize List.filter _ _ = l
  induction l with
  | nil => rfl
  | cons a l ih => rw [List.foldl_cons, hx]; exact ih

/-- A gather along the columns of a rank-2 operand, its rows a batching axis: element `(b, j)` is row `b` at the column
    that index `(b, j)` names, clamped into the row. -/
theorem gather_cols_apply {α : Type} (x : S131072x8.Idx → α) (idx : IVec S131072x128x1 32) (y : S131072x128.Idx) :
    Host.gather gather_S131072x8_S131072x128x1_S131072x128_n_1_0_0_1_2_11 x idx y
      = x (ix2 ⟨(y 0).val, idx2_lt0 y⟩ ⟨min (idx (takeIdx y)).toInt.toNat 7, by omega⟩) := by
  unfold Host.gather
  congr 1
  funext a
  refine Fin.ext ?_
  show GatherDims.start gather_S131072x8_S131072x128x1_S131072x128_n_1_0_0_1_2_11 y idx a
    + GatherDims.batchCoord gather_S131072x8_S131072x128x1_S131072x128_n_1_0_0_1_2_11 y a
    + GatherDims.offCoord gather_S131072x8_S131072x128x1_S131072x128_n_1_0_0_1_2_11 y a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S131072x8_S131072x128x1_S131072x128_n_1_0_0_1_2_11.operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S131072x8_S131072x128x1_S131072x128_n_1_0_0_1_2_11.startIndexMap from List.mem_singleton.mpr rfl)]
    congr 3
    refine congrArg idx (funext fun b => Fin.ext ?_)
    match b with
    | ⟨0, _⟩ => rfl
    | ⟨1, _⟩ => rfl
    | ⟨2, _⟩ => rfl

/-- At 32 bits an arithmetic right shift is the same function on the host and on the vector unit. -/
theorem shrsi_host (x y : BitVec 32) : IntOp.shrsi .host x y = IntOp.shrsi .vector x y := by
  simp [IntOp.shrsi, IntOp.cornerWord]

/-! ## The selectors -/

/-- Word `i` of each group of three. -/
theorem word_apply (p : IVec S6291456 32) (i : ℕ) (hs : S2097152x3.Slices ![0, i] S2097152x1) (hi : i < 3) (j : S2097152.Idx) :
    shapeCast S2097152 (extractStridedSlice S2097152x1 ![0, i] (shapeCast S2097152x3 p shapeCasts_S6291456_S2097152x3) hs)
      shapeCasts_S2097152x1_S2097152 j = pN p (3 * (j 0).val + i) := by
  have hj : (j 0).val < 2097152 := (j 0).isLt
  rw [shapeCast_apply _ _ j (ix2 ⟨(j 0).val, hj⟩ ⟨0, Nat.one_pos⟩) (by
      rw [Shape.rowMajor_val_two, Shape.rowMajor_val_one]; show (j 0).val * 1 + 0 = _; omega),
    extractStridedSlice_apply _ _ _ _ (ix2 ⟨(j 0).val, hj⟩ ⟨i, hi⟩) (by
      intro a
      match a with
      | ⟨0, _⟩ => exact (Nat.zero_add _).symm
      | ⟨1, _⟩ => rfl),
    shapeCast_apply _ _ _ (ix1 ⟨3 * (j 0).val + i, by omega⟩) (by
      rw [Shape.rowMajor_val_two, Shape.rowMajor_val_one]; show 3 * (j 0).val + i = (j 0).val * 3 + i; omega)]
  exact (nth_eq _ p _ rfl).symm

/-- Each group's twenty-four bits. -/
def bitsR (p : IVec S6291456 32) : IVec S2097152 32 :=
  ori (ori (shapeCast S2097152 (extractStridedSlice S2097152x1 ![0, 0] (shapeCast S2097152x3 p shapeCasts_S6291456_S2097152x3) slices_S2097152x3_S2097152x1_0_0) shapeCasts_S2097152x1_S2097152)
      (Host.shli (shapeCast S2097152 (extractStridedSlice S2097152x1 ![0, 1] (shapeCast S2097152x3 p shapeCasts_S6291456_S2097152x3) slices_S2097152x3_S2097152x1_0_1) shapeCasts_S2097152x1_S2097152)
        (broadcastInDim S2097152 ![] bcast_S_S2097152 (constantI S_ 32 8#32))))
    (Host.shli (shapeCast S2097152 (extractStridedSlice S2097152x1 ![0, 2] (shapeCast S2097152x3 p shapeCasts_S6291456_S2097152x3) slices_S2097152x3_S2097152x1_0_2) shapeCasts_S2097152x1_S2097152)
      (broadcastInDim S2097152 ![] bcast_S_S2097152 (constantI S_ 32 16#32)))

theorem bitsR_apply (p : IVec S6291456 32) (j : S2097152.Idx) : bitsR p j = grp (pN p) (j 0).val := by
  have h0 := word_apply p 0 slices_S2097152x3_S2097152x1_0_0 (by omega) j
  have h1 := word_apply p 1 slices_S2097152x3_S2097152x1_0_1 (by omega) j
  have h2 := word_apply p 2 slices_S2097152x3_S2097152x1_0_2 (by omega) j
  unfold grp
  rw [← h2, ← h1, ← shli_host, ← shli_host]
  rw [Nat.add_zero] at h0
  rw [← h0]
  rfl

/-- The eight selectors of each group. -/
def selR (p : IVec S6291456 32) : IVec S2097152x8 32 :=
  andi (Host.shrsi (broadcastInDim S2097152x8 ![0, 1] bcast_S2097152x1_S2097152x8_0_1 (broadcastInDim S2097152x1 ![0] bcast_S2097152_S2097152x1_0 (bitsR p)))
      (broadcastInDim S2097152x8 ![0, 1] bcast_S1x8_S2097152x8_0_1 (broadcastInDim S1x8 ![1] bcast_S8_S1x8_1 (muli (iotaInDim S8 32 0) (broadcastInDim S8 ![] bcast_S_S8 (constantI S_ 32 3#32))))))
    (broadcastInDim S2097152x8 ![] bcast_S_S2097152x8 (constantI S_ 32 7#32))

theorem selR_apply (p : IVec S6291456 32) (j : S2097152x8.Idx) : selR p j = code (pN p) (j 0).val (j 1).val := by
  have hb : broadcastInDim S2097152x8 ![0, 1] bcast_S2097152x1_S2097152x8_0_1 (broadcastInDim S2097152x1 ![0] bcast_S2097152_S2097152x1_0 (bitsR p)) j
      = grp (pN p) (j 0).val := by
    rw [broadcastInDim_apply _ _ _ j (ix2 ⟨(j 0).val, idx2_lt0 j⟩ ⟨0, Nat.one_pos⟩) (by
        intro a
        match a with
        | ⟨0, _⟩ => rfl
        | ⟨1, _⟩ => rfl),
      broadcastInDim_apply _ _ _ _ (ix1 ⟨(j 0).val, idx2_lt0 j⟩) (by
        intro a
        obtain rfl : a = 0 := Subsingleton.elim _ _
        rfl), bitsR_apply]
  have ha : broadcastInDim S2097152x8 ![0, 1] bcast_S1x8_S2097152x8_0_1 (broadcastInDim S1x8 ![1] bcast_S8_S1x8_1 (muli (iotaInDim S8 32 0) (broadcastInDim S8 ![] bcast_S_S8 (constantI S_ 32 3#32)))) j
      = BitVec.ofNat 32 (3 * (j 1).val) := by
    rw [broadcastInDim_apply _ _ _ j (ix2 ⟨0, Nat.one_pos⟩ ⟨(j 1).val, idx2_lt1 j⟩) (by
        intro a
        match a with
        | ⟨0, _⟩ => rfl
        | ⟨1, _⟩ => rfl),
      broadcastInDim_apply _ _ _ _ (ix1 ⟨(j 1).val, idx2_lt1 j⟩) (by
        intro a
        obtain rfl : a = 0 := Subsingleton.elim _ _
        rfl), Nat.mul_comm, BitVec.ofNat_mul]
    rfl
  unfold code
  rw [← hb, ← ha, ← shrsi_host]
  rfl

/-- The selectors laid out a codebook's 128 to a row. -/
def rowsR (p : IVec S6291456 32) : IVec S131072x128 32 :=
  shapeCast S131072x128 (shapeCast S16777216 (selR p) shapeCasts_S2097152x8_S16777216) shapeCasts_S16777216_S131072x128

theorem rowsR_apply (p : IVec S6291456 32) (j : S131072x128.Idx) :
    rowsR p j = code (pN p) ((128 * (j 0).val + (j 1).val) / 8) ((128 * (j 0).val + (j 1).val) % 8) := by
  have h0 : (j 0).val < 131072 := idx2_lt0 j
  have h1 : (j 1).val < 128 := idx2_lt1 j
  unfold rowsR
  rw [shapeCast_apply _ _ j (ix1 ⟨128 * (j 0).val + (j 1).val, by omega⟩) (by
      rw [Shape.rowMajor_val_two, Shape.rowMajor_val_one]; show 128 * (j 0).val + (j 1).val = (j 0).val * 128 + (j 1).val; omega),
    shapeCast_apply _ _ _ (ix2 ⟨(128 * (j 0).val + (j 1).val) / 8, by omega⟩ ⟨(128 * (j 0).val + (j 1).val) % 8, by omega⟩) (by
      rw [Shape.rowMajor_val_two, Shape.rowMajor_val_one]
      show (128 * (j 0).val + (j 1).val) / 8 * 8 + (128 * (j 0).val + (j 1).val) % 8 = 128 * (j 0).val + (j 1).val
      omega), selR_apply]

/-! ## The selection -/

/-- The index array of the selection: a negative index counts from the row's end. -/
def idxR (v : IVec S131072x128 32) : IVec S131072x128x1 32 :=
  shapeCast S131072x128x1 (select (cmpi .slt v (broadcastInDim S131072x128 ![] bcast_S_S131072x128 (constantI S_ 32 0#32)))
    (addi v (broadcastInDim S131072x128 ![] bcast_S_S131072x128 (constantI S_ 32 8#32))) v) shapeCasts_S131072x128_S131072x128x1

/-- The selection from the codebooks' rows, with the filler where the index is out of the row. -/
def takeR (cb : S131072x8.Idx → Ideal .f32) (v : IVec S131072x128 32) : S131072x128.Idx → Ideal .f32 :=
  select (Host.reduce IntOp.andi (andi (cmpi .sge (idxR v) (broadcastInDim S131072x128x1 ![] bcast_S_S131072x128x1 (constantI S_ 32 0#32)))
      (cmpi .sle (idxR v) (broadcastInDim S131072x128x1 ![0, 1, 2] bcast_S1x1x1_S131072x128x1_0_1_2 (broadcastInDim S1x1x1 ![2] bcast_S1_S1x1x1_2 (constantI S1 32 7#32)))))
      (constantI S_ 1 1#1) reducesTo_S131072x128x1_S131072x128_d2 h_S_)
    (Host.gather gather_S131072x8_S131072x128x1_S131072x128_n_1_0_0_1_2_11 cb (idxR v))
    (broadcastInDim S131072x128 ![] bcast_S_S131072x128 (constant S_ .f32 0x7FC00000#32))

/-- A three-bit word is at least zero, at most seven and not below zero, as a signed number. -/
theorem small_word {w : BitVec 32} (h : w.toNat ≤ 7) :
    IntOp.cmpi .slt w 0#32 = 0#1 ∧ IntOp.cmpi .sge w 0#32 = 1#1 ∧ IntOp.cmpi .sle w 7#32 = 1#1 ∧ w.toInt.toNat = w.toNat := by
  have key : ∀ k : Fin 8, IntOp.cmpi .slt (BitVec.ofNat 32 k.val) 0#32 = 0#1 ∧ IntOp.cmpi .sge (BitVec.ofNat 32 k.val) 0#32 = 1#1
      ∧ IntOp.cmpi .sle (BitVec.ofNat 32 k.val) 7#32 = 1#1 ∧ (BitVec.ofNat 32 k.val).toInt.toNat = (BitVec.ofNat 32 k.val).toNat := by decide
  have e : w = BitVec.ofNat 32 w.toNat := BitVec.eq_of_toNat_eq (by rw [BitVec.toNat_ofNat, Nat.mod_eq_of_lt w.isLt])
  have := key ⟨w.toNat, by omega⟩
  simp only [← e] at this
  exact this

theorem idxR_apply {v : IVec S131072x128 32} (hv : ∀ j, (v j).toNat ≤ 7) (i : S131072x128x1.Idx) :
    idxR v i = v (ix2 ⟨(i 0).val, show (i 0).val < 131072 from (i 0).isLt⟩ ⟨(i 1).val, show (i 1).val < 128 from (i 1).isLt⟩) := by
  have h2 : (i 2).val < 1 := (i 2).isLt
  unfold idxR
  rw [shapeCast_apply _ _ i (ix2 ⟨(i 0).val, show (i 0).val < 131072 from (i 0).isLt⟩ ⟨(i 1).val, show (i 1).val < 128 from (i 1).isLt⟩) (by
    rw [Shape.rowMajor_val_two, Shape.rowMajor_val_three]
    show (i 0).val * 128 + (i 1).val = ((i 0).val * 128 + (i 1).val) * 1 + (i 2).val
    omega), select_apply]
  have hc : cmpi .slt v (broadcastInDim S131072x128 ![] bcast_S_S131072x128 (constantI S_ 32 0#32)) (ix2 ⟨(i 0).val, show (i 0).val < 131072 from (i 0).isLt⟩ ⟨(i 1).val, show (i 1).val < 128 from (i 1).isLt⟩) = 0#1 :=
    (small_word (hv _)).1
  rw [hc]
  rfl

/-- Where every index is within the row, the selection is the row's element at the index. -/
theorem takeR_apply (cb : S131072x8.Idx → Ideal .f32) {v : IVec S131072x128 32} (hv : ∀ j, (v j).toNat ≤ 7) (j : S131072x128.Idx) :
    takeR cb v j = cb (ix2 ⟨(j 0).val, idx2_lt0 j⟩ ⟨(v j).toNat, Nat.lt_succ_of_le (hv j)⟩) := by
  have hm : Host.reduce IntOp.andi (andi (cmpi .sge (idxR v) (broadcastInDim S131072x128x1 ![] bcast_S_S131072x128x1 (constantI S_ 32 0#32)))
      (cmpi .sle (idxR v) (broadcastInDim S131072x128x1 ![0, 1, 2] bcast_S1x1x1_S131072x128x1_0_1_2 (broadcastInDim S1x1x1 ![2] bcast_S1_S1x1x1_2 (constantI S1 32 7#32)))))
      (constantI S_ 1 1#1) reducesTo_S131072x128x1_S131072x128_d2 h_S_ j = 1#1 := by
    refine reduce_andi_one _ _ _ _ _ (fun i => ?_) (fun _ => rfl)
    show IntOp.andi (IntOp.cmpi .sge (idxR v i) 0#32) (IntOp.cmpi .sle (idxR v i) 7#32) = 1#1
    rw [idxR_apply hv, (small_word (hv _)).2.1, (small_word (hv _)).2.2.1]
    rfl
  have e : idxR v (takeIdx j) = v j := by
    rw [idxR_apply hv]
    exact congrArg v (eq_ix2 j).symm
  unfold takeR
  rw [select_apply, hm, gather_cols_apply, select_one]
  refine congrArg cb (congrArg (ix2 _) (Fin.ext ?_))
  show min (idxR v (takeIdx j)).toInt.toNat 7 = (v j).toNat
  rw [e, (small_word (hv j)).2.2.2]
  exact Nat.min_eq_left (hv j)

/-! ## The product -/

/-- The reference's result as a function of its three arguments. -/
def refOut (x : S4x4096.Idx → Ideal .f32) (p : IVec S6291456 32) (cb : S131072x8.Idx → Ideal .f32) : S4x4096.Idx → Ideal .f32 :=
  Host.dotGeneral (φ₁ := .f32) (φ₂ := .f32) dot_S4x4096_S4096x4096_S4x4096_1_0_0_1_n_n none x
    (transpose S4096x4096 [1, 0] (shapeCast S4096x4096 (shapeCast S16777216 (takeR cb (rowsR p)) shapeCasts_S131072x128_S16777216)
      shapeCasts_S16777216_S4096x4096) transposes_S4096x4096_S4096x4096_1_0)

/-- The weight the reference multiplies column `k` of output `n` by. -/
theorem weight_apply (p : IVec S6291456 32) (cb : S131072x8.Idx → Ideal .f32) (c : ℕ → Ideal .f32)
    (hc : ∀ (r : Fin 131072) (s : Fin 8), c (8 * r.val + s.val) = cb (ix2 r s)) (k n : Fin 4096) :
    transpose S4096x4096 [1, 0] (shapeCast S4096x4096 (shapeCast S16777216 (takeR cb (rowsR p)) shapeCasts_S131072x128_S16777216)
      shapeCasts_S16777216_S4096x4096) transposes_S4096x4096_S4096x4096_1_0 (ix2 k n) = wAt c (pN p) n.val k.val := by
  have hn := n.isLt
  have hk := k.isLt
  rw [transpose_apply _ _ _ _ (ix2 n k) (by
      intro b
      match b with
      | ⟨0, _⟩ => rfl
      | ⟨1, _⟩ => rfl),
    shapeCast_apply _ _ _ (ix1 ⟨4096 * n.val + k.val, by omega⟩) (by
      rw [Shape.rowMajor_val_two, Shape.rowMajor_val_one]; show 4096 * n.val + k.val = n.val * 4096 + k.val; omega),
    shapeCast_apply _ _ _ (ix2 ⟨(4096 * n.val + k.val) / 128, by omega⟩ ⟨(4096 * n.val + k.val) % 128, by omega⟩) (by
      rw [Shape.rowMajor_val_two, Shape.rowMajor_val_one]
      show (4096 * n.val + k.val) / 128 * 128 + (4096 * n.val + k.val) % 128 = 4096 * n.val + k.val
      omega),
    takeR_apply cb (fun j => by rw [rowsR_apply]; exact code_le _ _ _), ← hc]
  unfold wAt
  congr 2
  refine (congrArg BitVec.toNat (rowsR_apply p _)).trans ?_
  show (code (pN p) ((128 * ((4096 * n.val + k.val) / 128) + (4096 * n.val + k.val) % 128) / 8)
    ((128 * ((4096 * n.val + k.val) / 128) + (4096 * n.val + k.val) % 128) % 8)).toNat = _
  rw [Nat.div_add_mod, show (4096 * n.val + k.val) % 8 = k.val % 8 by omega]

/-- Each element of the reference's result is its output's product. -/
theorem refOut_apply (x : S4x4096.Idx → Ideal .f32) (p : IVec S6291456 32) (cb : S131072x8.Idx → Ideal .f32) (xs c : ℕ → Ideal .f32)
    (hx : ∀ (b : Fin 4) (k : Fin 4096), xs (4096 * b.val + k.val) = x (ix2 b k))
    (hc : ∀ (r : Fin 131072) (s : Fin 8), c (8 * r.val + s.val) = cb (ix2 r s)) (b : Fin 4) (n : Fin 4096) :
    refOut x p cb (ix2 b n) = outAt xs c (pN p) b.val n.val := by
  unfold refOut outAt
  refine (StackMember.dotGeneral_plain_apply none x _ b n).trans ?_
  rw [← Fin.sum_univ_eq_sum_range (fun k => xs (4096 * b.val + k) * wAt c (pN p) n.val k) 4096]
  exact Finset.sum_congr rfl fun k _ => by rw [weight_apply p cb c hc, hx]

/-! ## The two programs -/

/-- Element `(b, n)` of the kernel's result is the reference's. -/
theorem outOf_ix2 (x : S4x4096.Idx → Ideal .f32) (p : IVec S6291456 32) (cb : S131072x8.Idx → Ideal .f32) (b : Fin 4) (n : Fin 4096) :
    outOf (F := Ideal) x p cb (ix2 b n) = refOut x p cb (ix2 b n) := by
  have hb := b.isLt
  have hn := n.isLt
  have hx : ∀ (b : Fin 4) (k : Fin 4096), xN (flatX x) (4096 * b.val + k.val) = x (ix2 b k) := fun b k => by
    have hb := b.isLt
    have hk := k.isLt
    rw [xN, nth_eq _ _ (ix1 ⟨4096 * b.val + k.val, by omega⟩) rfl]
    exact shapeCast_apply _ _ _ _ (by
      rw [Shape.rowMajor_val_two, Shape.rowMajor_val_one]; show b.val * 4096 + k.val = 4096 * b.val + k.val; omega)
  have hc : ∀ (r : Fin 131072) (s : Fin 8), cN (flatC cb) (8 * r.val + s.val) = cb (ix2 r s) := fun r s => by
    have hr := r.isLt
    have hs := s.isLt
    rw [cN, nth_eq _ _ (ix1 ⟨8 * r.val + s.val, by omega⟩) rfl]
    exact shapeCast_apply _ _ _ _ (by
      rw [Shape.rowMajor_val_two, Shape.rowMajor_val_one]; show r.val * 8 + s.val = 8 * r.val + s.val; omega)
  rw [refOut_apply x p cb _ _ hx hc]
  unfold outOf
  rw [shapeCast_apply _ _ _ (ix1 ⟨4096 * b.val + n.val, by omega⟩) (by
    rw [Shape.rowMajor_val_two, Shape.rowMajor_val_one]; show 4096 * b.val + n.val = b.val * 4096 + n.val; omega), gAt_eq]
  show outAt _ _ _ ((4096 * b.val + n.val) / 4096) ((4096 * b.val + n.val) % 4096) = _
  rw [show (4096 * b.val + n.val) / 4096 = b.val by omega, show (4096 * b.val + n.val) % 4096 = n.val by omega]

/-- The kernel's result and the reference's are the same function of the three arguments. -/
theorem outOf_eq_refOut (x : S4x4096.Idx → Ideal .f32) (p : IVec S6291456 32) (cb : S131072x8.Idx → Ideal .f32) :
    outOf (F := Ideal) x p cb = refOut x p cb := by
  funext i
  have h := outOf_ix2 x p cb ⟨(i 0).val, idx2_lt0 i⟩ ⟨(i 1).val, idx2_lt1 i⟩
  rwa [show ix2 ⟨(i 0).val, idx2_lt0 i⟩ ⟨(i 1).val, idx2_lt1 i⟩ = i from (eq_ix2 i).symm] at h

/-- What the reference's run leaves in its result is that function of its arguments. -/
theorem res_out0_eq (m : (ℓ : Loc nD τ sig) → Buf (Elt Ideal) ℓ) (c : Dev nD) :
    Cert.ReferenceIdeal.Value.res_out0 m c
      = refOut (m ((c.tc : Thread nD τ).loc main_arg0)) (m ((c.tc : Thread nD τ).loc main_arg1)) (m ((c.tc : Thread nD τ).loc main_arg2)) := by
  unfold Cert.ReferenceIdeal.Value.res_out0 Cert.ReferenceIdeal.Value.res_main_v29
  rfl

end Cert.Proof.Codebook

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Ref
public import Idealize.ShloMosaic.Adequacy
public import Idealize.ShloMosaic.Init

@[expose] public section

noncomputable section

namespace Cert.Proof

open Idealize.ShloMosaic Idealize.SL.Sem Cert.Kernel

/-- The kernel as printed runs to the end, its arguments unchanged and its counters zero: the two printed programs have
    the same text, so this is the one run, read at the machine's floats. -/
theorem frame_kernel : Cert.quiescent_Kernel := fun m g _ =>
  (θ_run Cert.KernelIdeal.defs _ _).mono (fun _ h => ⟨fun c => (h.1 c).2, h.2⟩) (Codebook.run_main (F := Bits) m g)

/-- The kernel at exact arithmetic runs to the end, its arguments unchanged and its counters zero. -/
theorem frame_kernelIdeal : Cert.quiescent_KernelIdeal := fun m g _ =>
  (θ_run Cert.KernelIdeal.defs _ _).mono (fun _ h => ⟨fun c => (h.1 c).2, h.2⟩) (Codebook.run_main (F := Ideal) m g)

/-- The reference at exact arithmetic runs to the end, its arguments unchanged and its counters zero. -/
theorem frame_referenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- From memories that agree on the arguments, the kernel and the reference end with equal results at exact arithmetic. -/
theorem values : Cert.algebraic_KernelIdeal_ReferenceIdeal := fun m g m' g' _ hm =>
  ⟨fun c => Codebook.outOf (F := Ideal) (m (Codebook.a0Loc c)) (m (Codebook.a1Loc c)) (m (Codebook.a2Loc c)),
    (θ_run Cert.KernelIdeal.defs _ _).mono (fun _ h => h.1) (Codebook.run_main (F := Ideal) m g),
    (θ_run Cert.ReferenceIdeal.defs _ _).mono (fun r h c => ⟨by
        obtain ⟨h0, h1, h2⟩ := hm c
        refine ((h c).1.trans (Codebook.res_out0_eq m' c)).trans ?_
        rw [h0, h1, h2]
        exact (Codebook.outOf_eq_refOut _ _ _).symm, (h c).2⟩)
      (Cert.ReferenceIdeal.Value.run (F := Ideal) m' g')⟩

theorem claim : Cert.Claim := ⟨Cert.Kernel.Gen.facts, Cert.KernelIdeal.Gen.facts, Cert.ReferenceIdeal.Gen.facts,
  frame_kernel, frame_kernelIdeal, frame_referenceIdeal, trivial, values⟩

end Cert.Proof

end
